-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![512, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S512x256 : Shape := ⟨2, ![512, 256]⟩
abbrev S_ : Shape := ⟨0, ![]⟩

class Facts : Prop where
  bcast_S_S512x256 : S_.BroadcastsInDim S512x256 (![] : Fin 0 → Fin S512x256.rank)

variable [Facts]

def fn {F : FTy → Type} [FloatOps F] (main_arg0 : FVec F S512x256 .f32) : IVec S512x256 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  main_v2
-- ==== Pre_finite_ReferenceIdeal.lean ====
abbrev S512x2048 : Shape := ⟨2, ![512, 2048]⟩
abbrev S_ : Shape := ⟨0, ![]⟩

class Facts : Prop where
  bcast_S_S512x2048 : S_.BroadcastsInDim S512x2048 (![] : Fin 0 → Fin S512x2048.rank)

variable [Facts]

def fn {F : FTy → Type} [FloatOps F] (main_arg0 : FVec F S512x2048 .f32) : IVec S512x2048 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  main_v2
-- ==== Kernel.lean ====
abbrev S512x256 : Shape := ⟨2, ![512, 256]⟩
abbrev S8x2x512 : Shape := ⟨3, ![8, 2, 512]⟩
abbrev S8 : Shape := ⟨1, ![8]⟩
abbrev S_ : Shape := ⟨0, ![]⟩
abbrev S512 : Shape := ⟨1, ![512]⟩
abbrev S512x1 : Shape := ⟨2, ![512, 1]⟩
abbrev S512x2 : Shape := ⟨2, ![512, 2]⟩
abbrev S2x512 : Shape := ⟨2, ![2, 512]⟩
abbrev S1x2x512 : Shape := ⟨3, ![1, 2, 512]⟩
abbrev S1 : Shape := ⟨1, ![1]⟩
abbrev S8x1x512 : Shape := ⟨3, ![8, 1, 512]⟩
abbrev S8x512 : Shape := ⟨2, ![8, 512]⟩
abbrev S1x512 : Shape := ⟨2, ![1, 512]⟩

abbrev nBuf : Space → Nat
  | .hbm => 2
  | .vmem => 3
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S8x2x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_72 : BitVec 32 := 0#32
  let c0_i32_70 : BitVec 32 := 0#32
  let c1_i32_71 : BitVec 32 := 1#32
  let v136 : BitVec 32 := Scalar.muli c0_i32_70 c1_i32_71
  let v137 : BitVec 32 := Scalar.addi c0_i32_72 v136
  v137.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_72 : BitVec 32 := 0#32
  let c1_i32_70 : BitVec 32 := 1#32
  let c1_i32_71 : BitVec 32 := 1#32
  let v136 : BitVec 32 := Scalar.muli c1_i32_70 c1_i32_71
  let v137 : BitVec 32 := Scalar.addi c0_i32_72 v136
  v137.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_72 : BitVec 32 := 0#32
  let c2_i32_70 : BitVec 32 := 2#32
  let c1_i32_71 : BitVec 32 := 1#32
  let v136 : BitVec 32 := Scalar.muli c2_i32_70 c1_i32_71
  let v137 : BitVec 32 := Scalar.addi c0_i32_72 v136
  v137.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_72 : BitVec 32 := 0#32
  let c3_i32_70 : BitVec 32 := 3#32
  let c1_i32_71 : BitVec 32 := 1#32
  let v136 : BitVec 32 := Scalar.muli c3_i32_70 c1_i32_71
  let v137 : BitVec 32 := Scalar.addi c0_i32_72 v136
  v137.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_72 : BitVec 32 := 0#32
  let c4_i32_70 : BitVec 32 := 4#32
  let c1_i32_71 : BitVec 32 := 1#32
  let v136 : BitVec 32 := Scalar.muli c4_i32_70 c1_i32_71
  let v137 : BitVec 32 := Scalar.addi c0_i32_72 v136
  v137.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_72 : BitVec 32 := 0#32
  let c5_i32_70 : BitVec 32 := 5#32
  let c1_i32_71 : BitVec 32 := 1#32
  let v136 : BitVec 32 := Scalar.muli c5_i32_70 c1_i32_71
  let v137 : BitVec 32 := Scalar.addi c0_i32_72 v136
  v137.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_72 : BitVec 32 := 0#32
  let c6_i32_70 : BitVec 32 := 6#32
  let c1_i32_71 : BitVec 32 := 1#32
  let v136 : BitVec 32 := Scalar.muli c6_i32_70 c1_i32_71
  let v137 : BitVec 32 := Scalar.addi c0_i32_72 v136
  v137.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_72 : BitVec 32 := 0#32
  let c7_i32_70 : BitVec 32 := 7#32
  let c1_i32_71 : BitVec 32 := 1#32
  let v136 : BitVec 32 := Scalar.muli c7_i32_70 c1_i32_71
  let v137 : BitVec 32 := Scalar.addi c0_i32_72 v136
  v137.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v39 : Index := Scalar.indexCast v2
  let c0_11 : Index := 0#32
  let c0_12 : Index := 0#32
  ![v39.toNat, 0, 0]
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_14 : BitVec 32 := 0#32
  let v43 : BitVec 1 := Scalar.cmpi .ne v2 c0_i32_14
  let v44 : BitVec 32 := Scalar.extui v43
  let c0_i32_15 : BitVec 32 := 0#32
  let v45 : BitVec 1 := Scalar.cmpi .ne v44 c0_i32_15
  v45

def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_73 : BitVec 32 := 0#32
  let c0_i32_74 : BitVec 32 := 0#32
  ![v2.toNat, 0, 0]
def k0_dev9 : Nat :=
  let c0_i32_72 : BitVec 32 := 0#32
  let c0_i32_70 : BitVec 32 := 0#32
  let c1_i32_71 : BitVec 32 := 1#32
  let v136 : BitVec 32 := Scalar.muli c0_i32_70 c1_i32_71
  let v137 : BitVec 32 := Scalar.addi c0_i32_72 v136
  v137.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v46 : BitVec 1 := Scalar.cmpi .ne v2 c1_i32_16
  let v47 : BitVec 32 := Scalar.extui v46
  let c0_i32_17 : BitVec 32 := 0#32
  let v48 : BitVec 1 := Scalar.cmpi .ne v47 c0_i32_17
  v48

def k0_off4 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_73 : BitVec 32 := 0#32
  let c0_i32_74 : BitVec 32 := 0#32
  ![v2.toNat, 0, 0]
def k0_dev10 : Nat :=
  let c0_i32_72 : BitVec 32 := 0#32
  let c1_i32_70 : BitVec 32 := 1#32
  let c1_i32_71 : BitVec 32 := 1#32
  let v136 : BitVec 32 := Scalar.muli c1_i32_70 c1_i32_71
  let v137 : BitVec 32 := Scalar.addi c0_i32_72 v136
  v137.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_18 : BitVec 32 := 2#32
  let v49 : BitVec 1 := Scalar.cmpi .ne v2 c2_i32_18
  let v50 : BitVec 32 := Scalar.extui v49
  let c0_i32_19 : BitVec 32 := 0#32
  let v51 : BitVec 1 := Scalar.cmpi .ne v50 c0_i32_19
  v51

def k0_off6 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_73 : BitVec 32 := 0#32
  let c0_i32_74 : BitVec 32 := 0#32
  ![v2.toNat, 0, 0]
def k0_dev11 : Nat :=
  let c0_i32_72 : BitVec 32 := 0#32
  let c2_i32_70 : BitVec 32 := 2#32
  let c1_i32_71 : BitVec 32 := 1#32
  let v136 : BitVec 32 := Scalar.muli c2_i32_70 c1_i32_71
  let v137 : BitVec 32 := Scalar.addi c0_i32_72 v136
  v137.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_20 : BitVec 32 := 3#32
  let v52 : BitVec 1 := Scalar.cmpi .ne v2 c3_i32_20
  let v53 : BitVec 32 := Scalar.extui v52
  let c0_i32_21 : BitVec 32 := 0#32
  let v54 : BitVec 1 := Scalar.cmpi .ne v53 c0_i32_21
  v54

def k0_off8 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_73 : BitVec 32 := 0#32
  let c0_i32_74 : BitVec 32 := 0#32
  ![v2.toNat, 0, 0]
def k0_dev12 : Nat :=
  let c0_i32_72 : BitVec 32 := 0#32
  let c3_i32_70 : BitVec 32 := 3#32
  let c1_i32_71 : BitVec 32 := 1#32
  let v136 : BitVec 32 := Scalar.muli c3_i32_70 c1_i32_71
  let v137 : BitVec 32 := Scalar.addi c0_i32_72 v136
  v137.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_22 : BitVec 32 := 4#32
  let v55 : BitVec 1 := Scalar.cmpi .ne v2 c4_i32_22
  let v56 : BitVec 32 := Scalar.extui v55
  let c0_i32_23 : BitVec 32 := 0#32
  let v57 : BitVec 1 := Scalar.cmpi .ne v56 c0_i32_23
  v57

def k0_off10 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_73 : BitVec 32 := 0#32
  let c0_i32_74 : BitVec 32 := 0#32
  ![v2.toNat, 0, 0]
def k0_dev13 : Nat :=
  let c0_i32_72 : BitVec 32 := 0#32
  let c4_i32_70 : BitVec 32 := 4#32
  let c1_i32_71 : BitVec 32 := 1#32
  let v136 : BitVec 32 := Scalar.muli c4_i32_70 c1_i32_71
  let v137 : BitVec 32 := Scalar.addi c0_i32_72 v136
  v137.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_24 : BitVec 32 := 5#32
  let v58 : BitVec 1 := Scalar.cmpi .ne v2 c5_i32_24
  let v59 : BitVec 32 := Scalar.extui v58
  let c0_i32_25 : BitVec 32 := 0#32
  let v60 : BitVec 1 := Scalar.cmpi .ne v59 c0_i32_25
  v60

def k0_off12 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_73 : BitVec 32 := 0#32
  let c0_i32_74 : BitVec 32 := 0#32
  ![v2.toNat, 0, 0]
def k0_dev14 : Nat :=
  let c0_i32_72 : BitVec 32 := 0#32
  let c5_i32_70 : BitVec 32 := 5#32
  let c1_i32_71 : BitVec 32 := 1#32
  let v136 : BitVec 32 := Scalar.muli c5_i32_70 c1_i32_71
  let v137 : BitVec 32 := Scalar.addi c0_i32_72 v136
  v137.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_26 : BitVec 32 := 6#32
  let v61 : BitVec 1 := Scalar.cmpi .ne v2 c6_i32_26
  let v62 : BitVec 32 := Scalar.extui v61
  let c0_i32_27 : BitVec 32 := 0#32
  let v63 : BitVec 1 := Scalar.cmpi .ne v62 c0_i32_27
  v63

def k0_off14 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off15 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_73 : BitVec 32 := 0#32
  let c0_i32_74 : BitVec 32 := 0#32
  ![v2.toNat, 0, 0]
def k0_dev15 : Nat :=
  let c0_i32_72 : BitVec 32 := 0#32
  let c6_i32_70 : BitVec 32 := 6#32
  let c1_i32_71 : BitVec 32 := 1#32
  let v136 : BitVec 32 := Scalar.muli c6_i32_70 c1_i32_71
  let v137 : BitVec 32 := Scalar.addi c0_i32_72 v136
  v137.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_28 : BitVec 32 := 7#32
  let v64 : BitVec 1 := Scalar.cmpi .ne v2 c7_i32_28
  let v65 : BitVec 32 := Scalar.extui v64
  let c0_i32_29 : BitVec 32 := 0#32
  let v66 : BitVec 1 := Scalar.cmpi .ne v65 c0_i32_29
  v66

def k0_off16 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_73 : BitVec 32 := 0#32
  let c0_i32_74 : BitVec 32 := 0#32
  ![v2.toNat, 0, 0]
def k0_dev16 : Nat :=
  let c0_i32_72 : BitVec 32 := 0#32
  let c7_i32_70 : BitVec 32 := 7#32
  let c1_i32_71 : BitVec 32 := 1#32
  let v136 : BitVec 32 := Scalar.muli c7_i32_70 c1_i32_71
  let v137 : BitVec 32 := Scalar.addi c0_i32_72 v136
  v137.toNat
def k0_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_53 : BitVec 32 := 0#32
  let v112 : BitVec 1 := Scalar.cmpi .ne v2 c0_i32_53
  let v113 : BitVec 32 := Scalar.extui v112
  let c0_i32_54 : BitVec 32 := 0#32
  let v114 : BitVec 1 := Scalar.cmpi .ne v113 c0_i32_54
  v114

def k0_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_72 : BitVec 32 := 0#32
  let c0_i32_73 : BitVec 32 := 0#32
  ![v2.toNat, 0, 0]
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_55 : BitVec 32 := 1#32
  let v115 : BitVec 1 := Scalar.cmpi .ne v2 c1_i32_55
  let v116 : BitVec 32 := Scalar.extui v115
  let c0_i32_56 : BitVec 32 := 0#32
  let v117 : BitVec 1 := Scalar.cmpi .ne v116 c0_i32_56
  v117

def k0_off19 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_72 : BitVec 32 := 0#32
  let c0_i32_73 : BitVec 32 := 0#32
  ![v2.toNat, 0, 0]
def k0_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_57 : BitVec 32 := 2#32
  let v118 : BitVec 1 := Scalar.cmpi .ne v2 c2_i32_57
  let v119 : BitVec 32 := Scalar.extui v118
  let c0_i32_58 : BitVec 32 := 0#32
  let v120 : BitVec 1 := Scalar.cmpi .ne v119 c0_i32_58
  v120

def k0_off20 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_72 : BitVec 32 := 0#32
  let c0_i32_73 : BitVec 32 := 0#32
  ![v2.toNat, 0, 0]
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_59 : BitVec 32 := 3#32
  let v121 : BitVec 1 := Scalar.cmpi .ne v2 c3_i32_59
  let v122 : BitVec 32 := Scalar.extui v121
  let c0_i32_60 : BitVec 32 := 0#32
  let v123 : BitVec 1 := Scalar.cmpi .ne v122 c0_i32_60
  v123

def k0_off21 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_72 : BitVec 32 := 0#32
  let c0_i32_73 : BitVec 32 := 0#32
  ![v2.toNat, 0, 0]
def k0_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_61 : BitVec 32 := 4#32
  let v124 : BitVec 1 := Scalar.cmpi .ne v2 c4_i32_61
  let v125 : BitVec 32 := Scalar.extui v124
  let c0_i32_62 : BitVec 32 := 0#32
  let v126 : BitVec 1 := Scalar.cmpi .ne v125 c0_i32_62
  v126

def k0_off22 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_72 : BitVec 32 := 0#32
  let c0_i32_73 : BitVec 32 := 0#32
  ![v2.toNat, 0, 0]
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_63 : BitVec 32 := 5#32
  let v127 : BitVec 1 := Scalar.cmpi .ne v2 c5_i32_63
  let v128 : BitVec 32 := Scalar.extui v127
  let c0_i32_64 : BitVec 32 := 0#32
  let v129 : BitVec 1 := Scalar.cmpi .ne v128 c0_i32_64
  v129

def k0_off23 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_72 : BitVec 32 := 0#32
  let c0_i32_73 : BitVec 32 := 0#32
  ![v2.toNat, 0, 0]
def k0_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_65 : BitVec 32 := 6#32
  let v130 : BitVec 1 := Scalar.cmpi .ne v2 c6_i32_65
  let v131 : BitVec 32 := Scalar.extui v130
  let c0_i32_66 : BitVec 32 := 0#32
  let v132 : BitVec 1 := Scalar.cmpi .ne v131 c0_i32_66
  v132

def k0_off24 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_72 : BitVec 32 := 0#32
  let c0_i32_73 : BitVec 32 := 0#32
  ![v2.toNat, 0, 0]
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_67 : BitVec 32 := 7#32
  let v133 : BitVec 1 := Scalar.cmpi .ne v2 c7_i32_67
  let v134 : BitVec 32 := Scalar.extui v133
  let c0_i32_68 : BitVec 32 := 0#32
  let v135 : BitVec 1 := Scalar.cmpi .ne v134 c0_i32_68
  v135

def k0_off25 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_72 : BitVec 32 := 0#32
  let c0_i32_73 : BitVec 32 := 0#32
  ![v2.toNat, 0, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x2048 : Shape := ⟨2, ![512, 2048]⟩
abbrev S_ : Shape := ⟨0, ![]⟩
abbrev S512 : Shape := ⟨1, ![512]⟩
abbrev S512x1 : Shape := ⟨2, ![512, 1]⟩

abbrev nBuf : Space → Nat
  | .hbm => 12
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S_, .f32⟩
  | .hbm, ⟨2, _⟩ => ⟨S512, .f32⟩
  | .hbm, ⟨3, _⟩ => ⟨S512x1, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S512x2048, .f32⟩
  | .hbm, ⟨11, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.KernelIdeal.Cells.lean ====
/-
The cells, slots and contents of the kernel's exchange.

Each of the eight devices keeps a statistics buffer of eight slots (`cc0_scratch0`), slot `k` for device `k`'s row
maxima and row sums. A device stores its own statistics into its own slot and copies that slot into the same slot of
each of the seven others. Three kinds of semaphore count the exchange on every device: the barrier semaphore (each other
device signals it once, after which its buffer may be written), a send semaphore per destination and a receive
semaphore per source. This module names them, states what the buffer holds when the exchange is done (`gathered`: the
same on every device), and proves the geometry of the slots: slot `k` is the elements whose first coordinate is `k`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ValueIdx
public import Idealize.ShloMosaic.Lib.Ring
public import Idealize.ShloMosaic.Lib.Tactic

@[expose] public section

noncomputable section

namespace Cert.KernelIdealProof

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's, whose duties are named by devices -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The memrefs -/

abbrev xM : Memref sig .tc .vmem S512x256 .f32 := Memref.whole cc0_stg0_0
abbrev oM : Memref sig .tc .vmem S512x256 .f32 := Memref.whole cc0_stg1_0
abbrev sM : Memref sig .tc .vmem S8x2x512 .f32 := Memref.whole cc0_scratch0

/-- Slot `k` lies inside the statistics buffer. -/
theorem slot_inb (k : Dev nD) : ∀ a, (![k.val, 0, 0] : Fin 3 → Nat) a + S1x2x512.size a ≤ S8x2x512.size a := by
  revert k; decide
/-- Semaphore `k` lies inside an array of eight. -/
theorem sem_inb (k : Dev nD) : ∀ a, (![k.val] : Fin 1 → Nat) a + S1.size a ≤ S8.size a := by revert k; decide

/-- The rectangle of slot `k`. -/
abbrev slotR (k : Dev nD) : Rect S8x2x512 := Rect.unit (s := S8x2x512) ![k.val, 0, 0] S1x2x512.size (slot_inb k)
/-- Slot `k` as the transfers name it: the slice with its leading axis dropped. -/
abbrev slotM (k : Dev nD) : Memref sig .tc .vmem S2x512 .f32 := (sM.slice (slotR k) (fun _ => rfl)).squeeze S2x512 squeezes_S1x2x512_S2x512

/-! ## The semaphores and cells -/

/-- The barrier semaphore of the kernel's collective id. -/
abbrev barS : Sem sig := (SemArray.scalar (sig.barrier 0 rfl) : Sems sig S_).sem
/-- The send semaphore a device uses for its copy to device `k`. -/
abbrev sendS (k : Dev nD) : DmaSem sig := ((cc0_scratch1.slice (Rect.unit (s := S8) ![k.val] S1.size (sem_inb k))).squeeze S_ squeezes_S1_S_).sem
/-- The receive semaphore on which the copy from device `k` completes. -/
abbrev recvS (k : Dev nD) : DmaSem sig := ((cc0_scratch2.slice (Rect.unit (s := S8) ![k.val] S1.size (sem_inb k))).squeeze S_ squeezes_S1_S_).sem

abbrev barCell (c : Dev nD) : GSem nD τ sig := ((c : Thread nD τ), .reg barS)
abbrev sendCell (c k : Dev nD) : GSem nD τ sig := ((c : Thread nD τ), .dma (sendS k))
abbrev recvCell (c k : Dev nD) : GSem nD τ sig := ((c : Thread nD τ), .dma (recvS k))

/-- A device's own cells by name: `none` the barrier, `some (true, k)` the send cell to `k`, `some (false, k)` the receive
    cell from `k`. -/
abbrev CIx : Type := Option (Bool × Dev nD)

/-- The kernel's own (scoped) semaphores. -/
abbrev osem (i : Bool × Dev nD) : SemLoc sig := if i.1 then .dma (sendS i.2) else .dma (recvS i.2)
/-- All the semaphores of the exchange. -/
abbrev csem : CIx → SemLoc sig
  | none => .reg barS
  | some i => osem i
abbrev kcell (ci : Dev nD × CIx) : GSem nD τ sig := ((ci.1 : Thread nD τ), csem ci.2)

/-- Which of a device's cells a semaphore is, if any. -/
def ixOf : SemLoc sig → Option CIx
  | .reg _ => some none
  | .dma q => if 10 ≤ q.val then some (some (false, Fin.ofNat 8 (q.val - 10)))
      else if 2 ≤ q.val then some (some (true, Fin.ofNat 8 (q.val - 2))) else none

theorem ixOf_csem (i : CIx) : ixOf (csem i) = some i := by revert i; decide
theorem ixOf_bar : ixOf (.reg barS : SemLoc sig) = some none := rfl
theorem ixOf_send (k : Dev nD) : ixOf (.dma (sendS k)) = some (some (true, k)) := ixOf_csem (some (true, k))
theorem ixOf_recv (k : Dev nD) : ixOf (.dma (recvS k)) = some (some (false, k)) := ixOf_csem (some (false, k))

theorem csem_injective : Function.Injective csem := fun i j h => by
  have := congrArg ixOf h
  rw [ixOf_csem, ixOf_csem] at this
  exact Option.some.inj this

theorem kcell_injective : Function.Injective (kcell : Dev nD × CIx → GSem nD τ sig) := by
  rintro ⟨c, i⟩ ⟨c', i'⟩ h
  have h1 : c = c' := congrArg (fun g : GSem nD τ sig => g.1.1) h
  have h2 : i = i' := csem_injective (congrArg Prod.snd h)
  rw [h1, h2]

/-- What one copy of a slot credits. -/
abbrev N : ℕ := (slotM (0 : Dev nD)).view.dmaCredit
theorem N_pos : 0 < N := View.dmaCredit_pos _ (by decide)

/-! ## Contents -/

/-- What the input's staging buffer holds on device `c`: its block of `x`. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s block as the kernel's arithmetic reads it. -/
def xAt (c : Dev nD) : FVec F S512x256 .f32 := k0_pay1 (xstg m ρ c)

/-- The statistics buffer when the exchange is done: slot `k` holds device `k`'s row maxima and row sums. -/
def gathered : Vec F S8x2x512 .f32 := fun i => k0_pay4 (xAt m ρ (i 0)) (ix2 (i 1) (i 2))

/-- The kernel's result on device `c`. -/
def outAt (c : Dev nD) : (cc0_stg1_0 : Ref sig .tc).ty.Contents (Elt F) := k0_pay6 (k0_pay3 (xAt m ρ c)) (k0_pay4 (xAt m ρ c)) (gathered m ρ)

/-! ## The slots' elements -/

/-- The elements of slot `k`. -/
def slotI (k : Dev nD) : Finset S8x2x512.Idx := Finset.univ.filter fun i => (i 0).val = k.val

theorem mem_slotI (k : Dev nD) (i : S8x2x512.Idx) : i ∈ slotI k ↔ (i 0).val = k.val := by simp [slotI]

theorem slotR_set (k : Dev nD) : (slotR k).set = slotI k := by
  ext i
  rw [Rect.mem_set_unit, mem_slotI]
  have h1 : (i 1).val < 2 := (i 1).isLt
  have h2 : (i 2).val < 512 := (i 2).isLt
  constructor
  · intro h
    have := h 0
    simp at this
    omega
  · intro h a
    fin_cases a
    · simp; omega
    · simpa using h1
    · simpa using h2

/-- What a transfer through slot `k` touches is the slot's elements. -/
theorem slotM_set (k : Dev nD) : (slotM k).view.set = slotI k := by
  show ((sM.view.slice (slotR k)).reshape S2x512 _).set = _
  rw [View.set_reshape, View.set_slice_whole, slotR_set]

theorem slotI_disjoint (k k' : Dev nD) (h : k ≠ k') : Disjoint (slotI k) (slotI k') := by
  rw [Finset.disjoint_left]
  intro i hi hi'
  rw [mem_slotI] at hi hi'
  exact h (Fin.ext (hi.symm.trans hi'))

theorem slotI_cover : (Finset.univ.biUnion slotI : Finset S8x2x512.Idx) = Finset.univ := by
  ext i
  simp only [Finset.mem_biUnion, Finset.mem_univ, true_and, iff_true]
  exact ⟨i 0, (mem_slotI _ _).mpr rfl⟩

end Cert.KernelIdealProof

end
-- ==== Proof.KernelIdeal.Schedule.lean ====
/-
The schedule of the exchange: who owes which cell what, and what each payment hands over.

Everything happens in one round.
* Device `c`'s barrier cell has one duty per other device `d`, of one unit: `d` hands `c` slot `c` of `d`'s statistics
  buffer, which `c` may then write.
* Device `c`'s receive cell from `k ≠ c` has one duty, paid by `k`'s copy landing: slot `k` of `c`'s buffer holds what
  the exchange gathers there.
* Device `c`'s send cell to `k ≠ c` has one duty, paid by `c`'s copy to `k` having been read: the share of `c`'s own slot
  that was lent to the copy comes back.
The cells a device has with itself have no duties.
-/
module

public import proofs.«01_k».proof.Proof.KernelIdeal.Cells
public import Idealize.ShloMosaic.Lib.Pipeline.Value

@[expose] public section

noncomputable section

namespace Cert.KernelIdealProof

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

/-! ## Slots held -/

/-- Slot `k` of device `d`'s statistics buffer, held at share `q` with the buffer's contents `f`. -/
def slotPts (d k : Dev nD) (q : PosShare TreeShare) (f : Buf (Elt F) ((d : Thread nD τ).loc cc0_scratch0)) : sProp 𝕄 :=
  ((d : Thread nD τ).loc cc0_scratch0) ↦[slotI k]{q} f

omit [FloatOps F] in
instance slotPts_storable (d k : Dev nD) (q : PosShare TreeShare) (f) : BI.Storable (upEmb : UEmb _ 𝕄) (slotPts (F := F) d k q f) := by
  unfold slotPts; infer_instance

omit [FloatOps F] in
/-- A slot held is what a transfer through it asks for. -/
theorem slotPts_view (d k : Dev nD) (q : PosShare TreeShare) (f : Buf (Elt F) ((d : Thread nD τ).loc cc0_scratch0)) :
    slotPts d k q f = ((slotM k).view.loc (d : Thread nD τ) ↦[(slotM k).view.set]{q} f : sProp 𝕄) := by
  unfold slotPts; rw [slotM_set]

omit [FloatOps F] in
/-- The buffer held whole is its eight slots held. -/
theorem slots_whole (d : Dev nD) (q : PosShare TreeShare) (f : Buf (Elt F) ((d : Thread nD τ).loc cc0_scratch0)) :
    (((d : Thread nD τ).loc cc0_scratch0) ↦{q} f : sProp 𝕄) = bigSep Finset.univ fun k : Dev nD => slotPts d k q f :=
  Ring.pointsTo_blocks (ℓ := (d : Thread nD τ).loc cc0_scratch0) slotI slotI_disjoint slotI_cover f

omit [FloatOps F] in
/-- A slot is held at any contents that agree on its elements. -/
theorem slotPts_congr (d k : Dev nD) (q : PosShare TreeShare) (f g : Buf (Elt F) ((d : Thread nD τ).loc cc0_scratch0))
    (h : ∀ i ∈ slotI k, f i = g i) : (slotPts d k q f : sProp 𝕄) = slotPts d k q g := by
  unfold slotPts; exact pointsTo_congr h

omit [FloatOps F] in
/-- A slot copied from a buffer agrees with that buffer on the slot. -/
theorem landed_slot (k : Dev nD) (fd fs : (cc0_scratch0 : Ref sig .tc).ty.Contents (Elt F)) (i : S8x2x512.Idx) (hi : i ∈ slotI k) :
    (slotM k).view.write (Elt F) fd ((slotM k).view.read (Elt F) fs) Finset.univ i = fs i := by
  rw [View.write_read_eq_piecewise, View.setOn_univ]
  exact Finset.piecewise_eq_of_mem _ _ _ (by rw [slotM_set]; exact hi)

/-- A device's own statistics stored into its own slot are what the exchange gathers there. -/
theorem stored_slot (c : Dev nD) (f : (cc0_scratch0 : Ref sig .tc).ty.Contents (Elt F)) (i : S8x2x512.Idx) (hi : i ∈ slotI c) :
    (sM.access (slotR c) : View sig .tc _ _ _).write (Elt F) f (k0_pay5 (xAt m ρ c)) Finset.univ i = gathered m ρ i := by
  rw [mem_slotI] at hi
  have hc : i 0 = c := Fin.ext hi
  have he : i = (sM.access (slotR c) : View sig .tc _ _ _).emb (ix3 (0 : Fin 1) (i 1) (i 2)) := by
    show i = (slotR c).emb _
    funext a
    fin_cases a
    · apply Fin.ext; show (i 0).val = c.val + 1 * 0; omega
    · apply Fin.ext; show (i 1).val = 0 + 1 * (i 1).val; omega
    · apply Fin.ext; show (i 2).val = 0 + 1 * (i 2).val; omega
  rw [he, View.write_emb_of_mem _ _ (Finset.mem_univ _), ← he]
  show k0_pay5 (xAt m ρ c) (ix3 (0 : Fin 1) (i 1) (i 2)) = _
  unfold k0_pay5 gathered
  rw [hc]
  refine (shapeCast_addUnit_apply _ _ _ _).trans ?_
  congr 1
  funext a
  fin_cases a <;> rfl

/-! ## The schedule -/

/-- The duties of one of device `c`'s cells: who pays it. -/
def cellDuties (c : Dev nD) : Option CIx → Finset (Dev nD)
  | some none => Finset.univ.erase c
  | some (some (true, k)) => if k = c then ∅ else {c}
  | some (some (false, k)) => if k = c then ∅ else {k}
  | none => ∅

/-- What device `d`'s payment hands the owner `c` of the cell. -/
def cellPay (c : Dev nD) (d : Dev nD) : Option CIx → sProp 𝕄
  | some none => iprop(∃ f, slotPts d c fullShare f)
  | some (some (true, k)) => slotPts c c (shareTok fullShare 8 k) (gathered m ρ)
  | some (some (false, k)) => slotPts c k fullShare (gathered m ρ)
  | none => iprop(emp)

/-- The schedule: one round of the duties above, one unit on a barrier cell, a slot's credit on a transfer's. -/
def Rd : Rounds.Schedule (GSem nD τ sig) (Dev nD) 𝕄 where
  duties g r := if r = 0 ∧ g.1.2 = .tc then cellDuties g.1.1 (ixOf g.2) else ∅
  unitless _ := False
  amount g _ _ := if ixOf g.2 = some none then 1 else N
  payload g _ d := cellPay m ρ g.1.1 d (ixOf g.2)
  amount_pos g _ _ _ := by
    by_cases h : ixOf g.2 = some none
    · rw [if_pos h]; exact Nat.one_pos
    · rw [if_neg h]; exact N_pos

instance Rd_payload_storable (g : GSem nD τ sig) (r : ℕ) (d : Dev nD) : BI.Storable (upEmb : UEmb _ 𝕄) ((Rd (F := F) m ρ).payload g r d) := by
  show BI.Storable upEmb (cellPay m ρ g.1.1 d (ixOf g.2))
  unfold cellPay
  split <;> infer_instance

section Sched
variable (c k : Dev nD)

theorem duties_bar : (Rd (F := F) m ρ).duties (barCell c) 0 = Finset.univ.erase c := by
  dsimp only [Rd]; rw [if_pos ⟨rfl, rfl⟩]; rfl
theorem duties_send : (Rd (F := F) m ρ).duties (sendCell c k) 0 = if k = c then ∅ else {c} := by
  dsimp only [Rd]; rw [if_pos ⟨rfl, rfl⟩, ixOf_send]; rfl
theorem duties_recv : (Rd (F := F) m ρ).duties (recvCell c k) 0 = if k = c then ∅ else {k} := by
  dsimp only [Rd]; rw [if_pos ⟨rfl, rfl⟩, ixOf_recv]; rfl
theorem duties_later (g : GSem nD τ sig) : ∀ r, 1 ≤ r → (Rd (F := F) m ρ).duties g r = ∅ :=
  fun r hr => by dsimp only [Rd]; rw [if_neg fun h => by omega]
/-- The cells a device has with itself have no duty in any round. -/
theorem duties_send_self : ∀ r, 0 ≤ r → (Rd (F := F) m ρ).duties (sendCell c c) r = ∅ := fun r _ => by
  rcases Nat.eq_zero_or_pos r with rfl | h
  · rw [duties_send, if_pos rfl]
  · exact duties_later m ρ _ r h
theorem duties_recv_self : ∀ r, 0 ≤ r → (Rd (F := F) m ρ).duties (recvCell c c) r = ∅ := fun r _ => by
  rcases Nat.eq_zero_or_pos r with rfl | h
  · rw [duties_recv, if_pos rfl]
  · exact duties_later m ρ _ r h

theorem amount_bar (d : Dev nD) : (Rd (F := F) m ρ).amount (barCell c) 0 d = 1 := by dsimp only [Rd]; exact if_pos rfl
theorem amount_send (d : Dev nD) : (Rd (F := F) m ρ).amount (sendCell c k) 0 d = N := by
  dsimp only [Rd]; rw [ixOf_send]; exact if_neg (fun h => by cases h)
theorem amount_recv (d : Dev nD) : (Rd (F := F) m ρ).amount (recvCell c k) 0 d = N := by
  dsimp only [Rd]; rw [ixOf_recv]; exact if_neg (fun h => by cases h)

theorem expect_bar : (Rd (F := F) m ρ).expect (barCell c) 0 = 7 := by
  unfold Schedule.expect Schedule.amountOf
  rw [duties_bar, Finset.sum_congr rfl fun d _ => amount_bar m ρ c d, Finset.sum_const, Finset.card_erase_of_mem (Finset.mem_univ _)]
  rfl
theorem expect_send (h : k ≠ c) : (Rd (F := F) m ρ).expect (sendCell c k) 0 = N := by
  unfold Schedule.expect Schedule.amountOf; rw [duties_send, if_neg h, Finset.sum_singleton, amount_send]
theorem expect_recv (h : k ≠ c) : (Rd (F := F) m ρ).expect (recvCell c k) 0 = N := by
  unfold Schedule.expect Schedule.amountOf; rw [duties_recv, if_neg h, Finset.sum_singleton, amount_recv]

theorem payload_bar (d : Dev nD) : (Rd (F := F) m ρ).payload (barCell c) 0 d = iprop(∃ f, slotPts d c fullShare f) := rfl
theorem payload_send (d : Dev nD) : (Rd (F := F) m ρ).payload (sendCell c k) 0 d = slotPts c c (shareTok fullShare 8 k) (gathered m ρ) := by
  dsimp only [Rd]; rw [ixOf_send]; rfl
theorem payload_recv (d : Dev nD) : (Rd (F := F) m ρ).payload (recvCell c k) 0 d = slotPts c k fullShare (gathered m ρ) := by
  dsimp only [Rd]; rw [ixOf_recv]; rfl

/-- The whole of a barrier cell's round: slot `c` of every other device. -/
theorem rest_bar : bigSep ((Rd (F := F) m ρ).duties (barCell c) 0 \ ∅) (fun d => (Rd (F := F) m ρ).payload (barCell c) 0 d)
    = bigSep (Finset.univ.erase c) fun d : Dev nD => (iprop(∃ f, slotPts d c fullShare f) : sProp 𝕄) := by
  rw [Finset.sdiff_empty, duties_bar]; rfl
theorem rest_send (h : k ≠ c) : bigSep ((Rd (F := F) m ρ).duties (sendCell c k) 0 \ ∅) (fun d => (Rd (F := F) m ρ).payload (sendCell c k) 0 d)
    = slotPts c c (shareTok fullShare 8 k) (gathered m ρ) := by
  rw [Finset.sdiff_empty, duties_send, if_neg h, bigSep_singleton, payload_send]
theorem rest_recv (h : k ≠ c) : bigSep ((Rd (F := F) m ρ).duties (recvCell c k) 0 \ ∅) (fun d => (Rd (F := F) m ρ).payload (recvCell c k) 0 d)
    = slotPts c k fullShare (gathered m ρ) := by
  rw [Finset.sdiff_empty, duties_recv, if_neg h, bigSep_singleton, payload_recv]

end Sched

/-! ## What each device owes; the levels -/

/-- The devices in the order the kernel visits them. -/
abbrev devs : List (Dev nD) := [0, 1, 2, 3, 4, 5, 6, 7]

/-- What device `c` owes device `k`'s barrier cell; -/
def barT (c k : Dev nD) : CellTallies nD τ sig Unit := if k = c then 0 else tallyAt (barCell k) () 1
/-- and device `k`'s receive cell. -/
def recvT (c k : Dev nD) : CellTallies nD τ sig Unit := if k = c then 0 else tallyAt (recvCell k c) () N

/-- What `c` owes with the copies to `ks` still to send; -/
def oR (c : Dev nD) (ks : List (Dev nD)) : CellTallies nD τ sig Unit := (ks.map (recvT c)).sum
/-- and with the signals to `ks` still to send besides all its copies. -/
def oB (c : Dev nD) (ks : List (Dev nD)) : CellTallies nD τ sig Unit := (ks.map (barT c)).sum + oR c devs
/-- What `c` owes at launch. -/
def O₀ (c : Dev nD) : CellTallies nD τ sig Unit := oB c devs

theorem oR_nil (c : Dev nD) : oR c [] = 0 := rfl
theorem oR_cons (c k : Dev nD) (ks : List (Dev nD)) : oR c (k :: ks) = oR c ks + recvT c k := by
  unfold oR; rw [List.map_cons, List.sum_cons, add_comm]
theorem oB_nil (c : Dev nD) : oB c [] = oR c devs := by unfold oB; rw [List.map_nil, List.sum_nil, zero_add]
theorem oB_cons (c k : Dev nD) (ks : List (Dev nD)) : oB c (k :: ks) = oB c ks + barT c k := by
  unfold oB; rw [List.map_cons, List.sum_cons]; abel

/-- Barrier cells at level 1, receive cells at 2, everything else (staging, send) at 0. -/
def lv (g : GSem nD τ sig) (_ : Unit) : ℕ := match ixOf g.2 with
  | some none => 1
  | some (some (false, _)) => 2
  | _ => 0
def L (g : GSem nD τ sig) : Finset Unit := if g.1.2 = .tc then {()} else ∅

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_recv (c k : Dev nD) : lv (recvCell c k) () = 2 := by unfold lv; rw [ixOf_recv]

theorem oR_pos {c : Dev nD} {ks : List (Dev nD)} {g : GSem nD τ sig} {u : Unit} (h : 0 < oR c ks g u) : ∃ k, g = recvCell k c := by
  induction ks with
  | nil => exact absurd h (Nat.lt_irrefl 0)
  | cons k ks ih =>
    rw [oR_cons, Pi.add_apply, Finsupp.add_apply] at h
    by_cases hk : 0 < oR c ks g u
    · exact ih hk
    · unfold recvT at h
      split at h
      · exact absurd h hk
      · rw [tallyAt_apply] at h
        by_cases hg : g = recvCell k c ∧ u = ()
        · exact ⟨k, hg.1⟩
        · rw [if_neg hg] at h; exact absurd h hk

theorem oB_pos {c : Dev nD} {ks : List (Dev nD)} {g : GSem nD τ sig} {u : Unit} (h : 0 < oB c ks g u) :
    (∃ k, g = recvCell k c) ∨ ∃ k, g = barCell k := by
  induction ks with
  | nil => rw [oB_nil] at h; exact Or.inl (oR_pos h)
  | cons k ks ih =>
    rw [oB_cons, Pi.add_apply, Finsupp.add_apply] at h
    by_cases hk : 0 < oB c ks g u
    · exact ih hk
    · unfold barT at h
      split at h
      · exact absurd h hk
      · rw [tallyAt_apply] at h
        by_cases hg : g = barCell k ∧ u = ()
        · exact Or.inr ⟨k, hg.1⟩
        · rw [if_neg hg] at h; exact absurd h hk

/-- A staging semaphore may be waited on under what a device owes at launch, or under nothing. -/
theorem mayWait_stage (c : Dev nD) (q : DmaSem sig) (hq : ixOf (.dma q : SemLoc sig) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases oB_pos hg with ⟨k, rfl⟩ | ⟨k, rfl⟩ <;> exact Finset.mem_singleton_self _)
      (fun p hp => by rw [Finset.mem_singleton.mp hp]; dsimp only [lv]; rw [hq])
      (fun g u hg => by
        rcases oB_pos hg with ⟨k, rfl⟩ | ⟨k, rfl⟩
        · rw [lv_recv]; decide
        · rw [lv_bar]; decide)
  · rw [MayWait_zero]; iintro -; iempintro

/-- At its barrier wait a device owes receive cells only, all above its barrier cell. -/
theorem mayWait_bar (c : Dev nD) (ks : List (Dev nD)) :
    (levAts L lv : sProp 𝕄) ⊢ MayWait (c : Thread nD τ) (.reg barS) () (oR c ks) :=
  MayOwe.of_cut (L := L) (lev := lv) 1 (fun p hp => by rw [Finset.mem_singleton.mp hp, L_tc]; exact Finset.mem_singleton_self _)
    (fun g u hg => by obtain ⟨k, rfl⟩ := oR_pos hg; exact Finset.mem_singleton_self _)
    (fun p hp => by rw [Finset.mem_singleton.mp hp]; exact (lv_bar c).le)
    (fun g u hg => by obtain ⟨k, rfl⟩ := oR_pos hg; rw [lv_recv]; decide)

end Cert.KernelIdealProof

end
-- ==== Proof.KernelIdeal.Steps.lean ====
/-
One step lemma per kind of conditional in the kernel's body. The body visits the eight devices in turn, skipping itself,
once to signal, once to copy, once to await the incoming copies and once to await its own; each lemma runs one such visit,
to device `k` on device `c`, whatever `k` is: for `k = c` nothing happens.
-/
module

public import proofs.«01_k».proof.Proof.KernelIdeal.Schedule

@[expose] public section

noncomputable section

namespace Cert.KernelIdealProof

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What every device knows: all the cells -/

/-- Every cell of every device carries its invariant, and round 0 of it is reached. -/
def records (K : Dev nD × CIx → ℕ) : sProp 𝕄 :=
  iprop((bigSep Finset.univ fun ci : Dev nD × CIx => cellInv ER (Rd m ρ) (K ci) (kcell ci))
    ∗ bigSep Finset.univ fun ci : Dev nD × CIx => reached ER (kcell ci) 0)

instance records_persistent (K : Dev nD × CIx → ℕ) : BI.Persistent (records m ρ K) := by unfold records; infer_instance

variable (K : Dev nD × CIx → ℕ)

theorem inv_at (ci : Dev nD × CIx) : records m ρ K ⊢ cellInv ER (Rd m ρ) (K ci) (kcell ci) := by
  unfold records
  iintro ⟨H, -⟩
  have h : (bigSep Finset.univ fun ci : Dev nD × CIx => (cellInv ER (Rd m ρ) (K ci) (kcell ci) : sProp 𝕄)) ⊢ cellInv ER (Rd m ρ) (K ci) (kcell ci) :=
    bigSep_elim (Finset.mem_univ ci)
  iapply h; iexact H
theorem reached_at (ci : Dev nD × CIx) : records m ρ K ⊢ reached ER (kcell ci) 0 := by
  unfold records
  iintro ⟨-, H⟩
  have h : (bigSep Finset.univ fun ci : Dev nD × CIx => (reached ER (kcell ci) 0 : sProp 𝕄)) ⊢ reached ER (kcell ci) 0 :=
    bigSep_elim (Finset.mem_univ ci)
  iapply h; iexact H

/-- What device `c` owes, whatever it has waited for. -/
def owesE (c : Dev nD) (O : CellTallies nD τ sig Unit) : sProp 𝕄 := iprop(∃ W : Waits sig Unit, owes (c : Thread nD τ) O W)

/-! ## What a visit takes and gives -/

/-- To signal `k`: the right to pay `k`'s barrier, and slot `k` of `c`'s buffer, which goes to `k`. -/
def SigIn (c k : Dev nD) : sProp 𝕄 := if k = c then iprop(emp) else iprop(dutyTok ER (barCell k) 0 c ∗ ∃ f, slotPts c k fullShare f)

/-- To copy to `k`: a share of `c`'s own slot, slot `c` of `k`'s buffer, and the rights to pay both ends' cells; -/
def SendIn (c k : Dev nD) : sProp 𝕄 := if k = c then iprop(emp)
  else iprop(slotPts c c (shareTok fullShare 8 k) (gathered m ρ) ∗ (∃ f, slotPts k c fullShare f)
    ∗ dutyTok ER (sendCell c k) 0 c ∗ dutyTok ER (recvCell k c) 0 c)
/-- for the credit that its send cell will be paid. -/
def SendOut (c k : Dev nD) : sProp 𝕄 := if k = c then iprop(emp) else cred (tallyAt (sendCell c k) () N)

/-- To await the copy from `k`: the position at the receive cell and its credit; -/
def RecvIn (c k : Dev nD) : sProp 𝕄 :=
  iprop(atPos ER (recvCell c k) 0 ∅ 0 ∗ if k = c then iprop(emp) else cred (tallyAt (recvCell c k) () N))
/-- for the counter back at zero, and the slot with `k`'s statistics. -/
def RecvOut (c k : Dev nD) : sProp 𝕄 :=
  iprop(semVal (recvCell c k) 0 ∗ if k = c then iprop(emp) else slotPts c k fullShare (gathered m ρ))

/-- To await its own copy to `k`: the position at the send cell and its credit; -/
def DoneIn (c k : Dev nD) : sProp 𝕄 := iprop(atPos ER (sendCell c k) 0 ∅ 0 ∗ SendOut c k)
/-- for the counter back at zero, and the lent share of its own slot. -/
def DoneOut (c k : Dev nD) : sProp 𝕄 :=
  iprop(semVal (sendCell c k) 0 ∗ if k = c then iprop(emp) else slotPts c c (shareTok fullShare 8 k) (gathered m ρ))

/-! ## The visits -/

section Visits

variable {α : Type} {P : Prog (TpuEff nD τ sig (Elt F) Λ₀ .tc) α} {cond : Prop} [Decidable cond]

/-- Storing its statistics into its own slot, after a load of the slot that goes unused. -/
theorem wp_own_store {Q : α → sProp 𝕄} (c : Dev nD) (f : Buf (Elt F) ((c : Thread nD τ).loc cc0_scratch0))
    {offS : Fin 3 → Nat} (hS : offS = ![c.val, 0, 0]) {inbS : ∀ a, offS a + S1x2x512.size a ≤ S8x2x512.size a} :
    slotPts c c fullShare f
      ⊢ iprop((slotPts c c fullShare (gathered m ρ) -∗ wp frame (wpE (defs₀ (F := F)) 𝒱₀ (c : Thread nD τ) none) Set.univ P Q)
          -∗ wp frame (wpE (defs₀ (F := F)) 𝒱₀ (c : Thread nD τ) none) Set.univ
            (.op (.load sM (Rect.unit (s := S8x2x512) offS S1x2x512.size inbS).toLoadRect (View.loadsAt_vmem h_S1x2x512)) fun _ =>
              .op (.store sM (Rect.unit (s := S8x2x512) offS S1x2x512.size inbS) (k0_pay5 (xAt m ρ c)) Finset.univ (View.stores_vmem_bits_univ h_S1x2x512 rfl) (.inl rfl)) fun _ => P) Q) := by
  subst hS
  have hset : (sM.access (slotR c) : View sig .tc _ _ _).set = slotI c := (View.set_slice_whole cc0_scratch0 (slotR c)).trans (slotR_set c)
  iintro Hs
  iintro Hk
  unfold slotPts
  iapply (wp_load_rect 𝒱₀ (c : Thread nD τ) none Set.univ (m := sM) (r := slotR c) hset.le) $$ Hs; iintro Hs
  iapply (wp_store 𝒱₀ (c : Thread nD τ) none Set.univ (m := sM) (r := slotR c) (Mk := Finset.univ) (by rw [View.setOn_univ]; exact hset.le)) $$ Hs; iintro Hs
  iapply Hk
  have he := slotPts_congr c c fullShare _ _ fun i hi => stored_slot m ρ c f i hi
  unfold slotPts at he
  ihave Hs := (Entails.of_eq he) $$ Hs
  iexact Hs

/-- The visit that signals device `k`. -/
theorem wp_visit_signal {Q : α → sProp 𝕄} (c k : Dev nD) (ks : List (Dev nD)) (hc : cond ↔ k ≠ c) {dst : cond → Dev nD} (hdst : ∀ h, dst h = k) :
    iprop(records m ρ K ∗ owesE c (oB c (k :: ks)) ∗ SigIn c k)
      ⊢ iprop((owesE c (oB c ks) -∗ wp frame (wpE (defs₀ (F := F)) 𝒱₀ (c : Thread nD τ) none) Set.univ P Q)
          -∗ wp frame (wpE (defs₀ (F := F)) 𝒱₀ (c : Thread nD τ) none) Set.univ (if h : cond then .op (.semSignal (dst h : Thread nD τ) barS (1#32 : BitVec 32).toInt) (fun _ => P) else P) Q) := by
  unfold owesE SigIn
  by_cases h : cond
  · rw [dif_pos h, hdst h, if_neg (hc.mp h)]
    iintro ⟨#HR, ⟨%W, HO⟩, Ht, Hs⟩
    iintro Hk
    iapply (Rounds.wp_signal 𝒱₀ ER (Rd m ρ) (c : Thread nD τ) none (dst := (k : Thread nD τ)) (κ := K (k, none)) (r := 0)
      (d := c) (by rw [duties_bar]; exact Finset.mem_erase.mpr ⟨(hc.mp h).symm, Finset.mem_univ _⟩) ((amount_bar m ρ k c).trans (by decide)) () (O₀ := oB c (k :: ks)) (oB c ks)
      (by rw [oB_cons, barT, if_neg (hc.mp h)]; rfl)) $$ [HO Ht Hs]
    · isplitr; · iapply (inv_at m ρ K (k, none)); iexact HR
      isplitl [HO]; · iexact HO
      isplitl [Ht]; · iexact Ht
      isplitl [Hs]; · rw [payload_bar]; iexact Hs
      iapply (reached_at m ρ K (k, none)); iexact HR
    iintro HO
    iapply Hk
    iexists W; iexact HO
  · have hk : k = c := not_not.mp fun hne => h (hc.mpr hne)
    rw [dif_neg h, oB_cons, barT, if_pos hk, add_zero]
    iintro ⟨-, HO, -⟩
    iintro Hk
    iapply Hk; iexact HO

/-- The visit that copies `c`'s own slot to device `k`. -/
theorem wp_visit_send {Q : α → sProp 𝕄} (c k : Dev nD) (ks : List (Dev nD)) (hc : cond ↔ k ≠ c) {dst : cond → Dev nD} (hdst : ∀ h, dst h = k)
    {offK : Fin 1 → Nat} (hK : offK = ![k.val]) {inbK : ∀ a, offK a + S1.size a ≤ S8.size a}
    {offR : Fin 1 → Nat} (hR : offR = ![c.val]) {inbR : cond → ∀ a, offR a + S1.size a ≤ S8.size a}
    {offS : Fin 3 → Nat} (hS : offS = ![c.val, 0, 0]) {inbS : cond → ∀ a, offS a + S1x2x512.size a ≤ S8x2x512.size a} :
    iprop(records m ρ K ∗ owesE c (oR c (k :: ks)) ∗ SendIn m ρ c k)
      ⊢ iprop((owesE c (oR c ks) ∗ SendOut c k -∗ wp frame (wpE (defs₀ (F := F)) 𝒱₀ (c : Thread nD τ) none) Set.univ P Q)
          -∗ wp frame (wpE (defs₀ (F := F)) 𝒱₀ (c : Thread nD τ) none) Set.univ (if h : cond then .op (.enqueueDma
                ((sM.slice (Rect.unit (s := S8x2x512) offS S1x2x512.size (inbS h)) (fun _ => rfl)).squeeze S2x512 squeezes_S1x2x512_S2x512)
                (.remote (Dev.tc (dst h)) ((sM.slice (Rect.unit (s := S8x2x512) offS S1x2x512.size (inbS h)) (fun _ => rfl)).squeeze S2x512 squeezes_S1x2x512_S2x512)
                  (.dma ((cc0_scratch1.slice (Rect.unit (s := S8) offK S1.size inbK)).squeeze S_ squeezes_S1_S_).sem))
                (.dma ((cc0_scratch2.slice (Rect.unit (s := S8) offR S1.size (inbR h))).squeeze S_ squeezes_S1_S_).sem)
                ((View.wordExact_bits rfl).reshape _ _) ((View.wordExact_bits rfl).reshape _ _) ⟨⟨rfl, Or.inl rfl⟩, trivial⟩) (fun _ => P) else P) Q) := by
  subst hK hR hS
  unfold owesE SendIn SendOut
  by_cases h : cond
  · have hne := hc.mp h
    rw [dif_pos h, hdst h, if_neg hne, if_neg hne, slotPts_view]
    simp only [slotPts_view k c]
    iintro ⟨#HR, ⟨%W, HO⟩, Hs, ⟨%fd, Hd⟩, Ht1, Ht2⟩
    iintro Hk
    iapply (Rounds.wp_send_pointsTo 𝒱₀ ER (Rd m ρ) (c : Thread nD τ) none (c' := (k : Thread nD τ)) (src := slotM c) (dst := slotM c)
      (sS := .dma (sendS k)) (sem := .dma (recvS c)) (κ₁ := K (c, some (true, k))) (κ₂ := K (k, some (false, c)))
      (r₁ := 0) (r₂ := 0) (d₁ := c) (d₂ := c) (fd := fd) (fs := gathered m ρ)
      (by rw [duties_send, if_neg hne]; exact Finset.mem_singleton_self _)
      (by rw [duties_recv, if_neg hne.symm]; exact Finset.mem_singleton_self _)
      () () N rfl (amount_send m ρ c k c) (amount_recv m ρ k c c) (O₀ := oR c (k :: ks)) (oR c ks) (by rw [oR_cons, recvT, if_neg hne]) (W := W)
      (by rw [payload_send, slotPts_view])
      (by
        rw [payload_recv, ← slotPts_view]
        exact Entails.of_eq (slotPts_congr _ _ _ _ _ fun i hi => landed_slot c fd (gathered m ρ) i hi))) $$ [HO Hs Hd Ht1 Ht2]
    · isplitr; · iapply (inv_at m ρ K (c, some (true, k))); iexact HR
      isplitr; · iapply (inv_at m ρ K (k, some (false, c))); iexact HR
      isplitl [Hs]; · iexact Hs
      isplitl [Hd]; · iexact Hd
      isplitl [HO]; · iexact HO
      isplitl [Ht1]; · iexact Ht1
      isplitr; · iapply (reached_at m ρ K (c, some (true, k))); iexact HR
      isplitl [Ht2]; · iexact Ht2
      iapply (reached_at m ρ K (k, some (false, c))); iexact HR
    iintro ⟨Hcr, HO⟩
    iapply Hk
    isplitl [HO]; · iexists W; iexact HO
    iexact Hcr
  · have hk : k = c := not_not.mp fun hne => h (hc.mpr hne)
    rw [dif_neg h, oR_cons, recvT, if_pos hk, if_pos hk, if_pos hk, add_zero]
    iintro ⟨-, HO, -⟩
    iintro Hk
    iapply Hk
    isplitl [HO]; · iexact HO
    iempintro

/-- The visit that awaits the copy from device `k`. -/
theorem wp_visit_recv {Q : α → sProp 𝕄} (c k : Dev nD) (hc : cond ↔ k ≠ c)
    {offK : Fin 1 → Nat} (hK : offK = ![k.val]) {inbK : ∀ a, offK a + S1.size a ≤ S8.size a}
    {offS : Fin 3 → Nat} (hS : offS = ![k.val, 0, 0]) {inbS : ∀ a, offS a + S1x2x512.size a ≤ S8x2x512.size a} :
    iprop(records m ρ K ∗ owesE c 0 ∗ RecvIn c k)
      ⊢ iprop((owesE c 0 ∗ RecvOut m ρ c k -∗ wp frame (wpE (defs₀ (F := F)) 𝒱₀ (c : Thread nD τ) none) Set.univ P Q)
          -∗ wp frame (wpE (defs₀ (F := F)) 𝒱₀ (c : Thread nD τ) none) Set.univ (if h : cond then .op (.waitDma2
                ((cc0_scratch2.slice (Rect.unit (s := S8) offK S1.size inbK)).squeeze S_ squeezes_S1_S_).sem
                ((sM.slice (Rect.unit (s := S8x2x512) offS S1x2x512.size inbS) (fun _ => rfl)).squeeze S2x512 squeezes_S1x2x512_S2x512)
                ((sM.slice (Rect.unit (s := S8x2x512) offS S1x2x512.size inbS) (fun _ => rfl)).squeeze S2x512 squeezes_S1x2x512_S2x512)
                ((View.wordExact_bits rfl).reshape _ _) ((View.wordExact_bits rfl).reshape _ _)) (fun _ => P) else P) Q) := by
  subst hK hS
  unfold owesE RecvIn RecvOut
  by_cases h : cond
  · have hne := hc.mp h
    rw [dif_pos h, if_neg hne, if_neg hne]
    iintro ⟨#HR, ⟨%W, HO⟩, Hat, Hcr⟩
    iintro Hk
    iapply (Rounds.wp_wait_rest_token 𝒱₀ ER (Rd m ρ) (c : Thread nD τ) none (κ := K (c, some (false, k)))
      (wpE_waitDma2_eq 𝒱₀ (c : Thread nD τ) none Set.univ) (Set.mem_univ _) () (O := 0) (W := W) (R := 0) (m := 0) (T := ∅)
      (by rw [Nat.zero_add, expect_recv m ρ c k hne])) $$ [Hcr HO Hat]
    · isplitr; · iapply (inv_at m ρ K (c, some (false, k))); iexact HR
      isplitl [Hcr]; · iexact Hcr
      isplitl [HO]; · iexact HO
      isplitr; · rw [MayWait_zero]; iempintro
      iexact Hat
    iintro ⟨HO, Hat, -, Hpay⟩
    ihave Hs := (Entails.of_eq (rest_recv m ρ c k hne)) $$ Hpay
    imod (Rounds.cell_close ER (Rd m ρ) (Set.mem_univ (K (c, some (false, k)))) (fun h => h) (R := 0 + 1) (duties_later m ρ (recvCell c k))) $$ [Hat] with Hz
    · isplitr; · iapply (inv_at m ρ K (c, some (false, k))); iexact HR
      iexact Hat
    iapply Hk
    isplitl [HO]; · iexists _; iexact HO
    isplitl [Hz]; · iexact Hz
    iexact Hs
  · have hk : k = c := not_not.mp fun hne => h (hc.mpr hne)
    subst hk
    rw [dif_neg h, if_pos rfl, if_pos rfl]
    iintro ⟨#HR, HO, Hat, -⟩
    iintro Hk
    imod (Rounds.cell_close ER (Rd m ρ) (Set.mem_univ (K (k, some (false, k)))) (fun h => h) (R := 0) (duties_recv_self m ρ k)) $$ [Hat] with Hz
    · isplitr; · iapply (inv_at m ρ K (k, some (false, k))); iexact HR
      iexact Hat
    iapply Hk
    isplitl [HO]; · iexact HO
    isplitl [Hz]; · iexact Hz
    iempintro

/-- The visit that awaits `c`'s own copy to device `k`. -/
theorem wp_visit_done {Q : α → sProp 𝕄} (c k : Dev nD) (hc : cond ↔ k ≠ c)
    {offK : Fin 1 → Nat} (hK : offK = ![k.val]) {inbK : ∀ a, offK a + S1.size a ≤ S8.size a}
    {offS : Fin 3 → Nat} (hS : offS = ![c.val, 0, 0]) {inbS : cond → ∀ a, offS a + S1x2x512.size a ≤ S8x2x512.size a} :
    iprop(records m ρ K ∗ owesE c 0 ∗ DoneIn c k)
      ⊢ iprop((owesE c 0 ∗ DoneOut m ρ c k -∗ wp frame (wpE (defs₀ (F := F)) 𝒱₀ (c : Thread nD τ) none) Set.univ P Q)
          -∗ wp frame (wpE (defs₀ (F := F)) 𝒱₀ (c : Thread nD τ) none) Set.univ (if h : cond then .op (.waitDma2
                ((cc0_scratch1.slice (Rect.unit (s := S8) offK S1.size inbK)).squeeze S_ squeezes_S1_S_).sem
                ((sM.slice (Rect.unit (s := S8x2x512) offS S1x2x512.size (inbS h)) (fun _ => rfl)).squeeze S2x512 squeezes_S1x2x512_S2x512)
                ((sM.slice (Rect.unit (s := S8x2x512) offS S1x2x512.size (inbS h)) (fun _ => rfl)).squeeze S2x512 squeezes_S1x2x512_S2x512)
                ((View.wordExact_bits rfl).reshape _ _) ((View.wordExact_bits rfl).reshape _ _)) (fun _ => P) else P) Q) := by
  subst hK hS
  unfold owesE DoneIn DoneOut SendOut
  by_cases h : cond
  · have hne := hc.mp h
    rw [dif_pos h, if_neg hne, if_neg hne]
    iintro ⟨#HR, ⟨%W, HO⟩, Hat, Hcr⟩
    iintro Hk
    iapply (Rounds.wp_wait_rest_token 𝒱₀ ER (Rd m ρ) (c : Thread nD τ) none (κ := K (c, some (true, k)))
      (wpE_waitDma2_eq 𝒱₀ (c : Thread nD τ) none Set.univ) (Set.mem_univ _) () (O := 0) (W := W) (R := 0) (m := 0) (T := ∅)
      (by rw [Nat.zero_add, expect_send m ρ c k hne])) $$ [Hcr HO Hat]
    · isplitr; · iapply (inv_at m ρ K (c, some (true, k))); iexact HR
      isplitl [Hcr]; · iexact Hcr
      isplitl [HO]; · iexact HO
      isplitr; · rw [MayWait_zero]; iempintro
      iexact Hat
    iintro ⟨HO, Hat, -, Hpay⟩
    ihave Hs := (Entails.of_eq (rest_send m ρ c k hne)) $$ Hpay
    imod (Rounds.cell_close ER (Rd m ρ) (Set.mem_univ (K (c, some (true, k)))) (fun h => h) (R := 0 + 1) (duties_later m ρ (sendCell c k))) $$ [Hat] with Hz
    · isplitr; · iapply (inv_at m ρ K (c, some (true, k))); iexact HR
      iexact Hat
    iapply Hk
    isplitl [HO]; · iexists _; iexact HO
    isplitl [Hz]; · iexact Hz
    iexact Hs
  · have hk : k = c := not_not.mp fun hne => h (hc.mpr hne)
    subst hk
    rw [dif_neg h, if_pos rfl, if_pos rfl]
    iintro ⟨#HR, HO, Hat, -⟩
    iintro Hk
    imod (Rounds.cell_close ER (Rd m ρ) (Set.mem_univ (K (k, some (true, k)))) (fun h => h) (R := 0) (duties_send_self m ρ k)) $$ [Hat] with Hz
    · isplitr; · iapply (inv_at m ρ K (k, some (true, k))); iexact HR
      iexact Hat
    iapply Hk
    isplitl [HO]; · iexact HO
    isplitl [Hz]; · iexact Hz
    iempintro

end Visits

end Cert.KernelIdealProof

end
-- ==== Proof.KernelIdeal.Parts.lean ====
/-
The kernel's body, run part by part. Each theorem runs one part from what it takes to what it leaves.
-/
module

public import proofs.«01_k».proof.Proof.KernelIdeal.Steps

@[expose] public section

noncomputable section

namespace Cert.KernelIdealProof

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg) (K : Dev nD × CIx → ℕ)

/-! ## The buffers read and written whole -/

/-- A resource held for every device, device by device. -/
theorem bigSep_dev (Φ : Dev nD → sProp 𝕄) :
    bigSep Finset.univ Φ = iprop(Φ 0 ∗ Φ 1 ∗ Φ 2 ∗ Φ 3 ∗ Φ 4 ∗ Φ 5 ∗ Φ 6 ∗ Φ 7) := bigSep_univ_eq_bigSepL devs (by decide) (by decide) Φ

/-- A resource held for every device but one. -/
theorem bigSep_but (c : Dev nD) (Φ : Dev nD → sProp 𝕄) :
    (bigSep Finset.univ fun k => if k = c then iprop(emp) else Φ k) = bigSep (Finset.univ.erase c) Φ := by
  rw [bigSep_univ_at _ c, if_pos rfl]
  refine (equiv_iff.mp emp_sep).trans (bigSep_congr fun k hk => ?_)
  rw [if_neg (Finset.ne_of_mem_erase hk)]

abbrev r0 : Rect S512x256 := Rect.unit (s := S512x256) ![0, 0] S512x256.size inb_S512x256_S512x256_0_0

theorem hz2 : (![0, 0] : Fin 2 → Nat) = fun _ => 0 := funext fun a => by fin_cases a <;> rfl
theorem hz3 : (![0, 0, 0] : Fin 3 → Nat) = fun _ => 0 := funext fun a => by fin_cases a <;> rfl
theorem read_x (f : (cc0_stg0_0 : Ref sig .tc).ty.Contents (Elt F)) : (xM : Memref sig .tc .vmem S512x256 .f32).view.readAt (Elt F) r0.toLoadRect f = f :=
  Memref.readAt_unit_zero (Elt F) cc0_stg0_0 hz2 _ f
theorem read_s (f : (cc0_scratch0 : Ref sig .tc).ty.Contents (Elt F)) :
    (sM : Memref sig .tc .vmem S8x2x512 .f32).view.readAt (Elt F) (Rect.unit (s := S8x2x512) ![0, 0, 0] S8x2x512.size inb_S8x2x512_S8x2x512_0_0_0).toLoadRect f = f :=
  Memref.readAt_unit_zero (Elt F) cc0_scratch0 hz3 _ f
theorem write_out (f w : (cc0_stg1_0 : Ref sig .tc).ty.Contents (Elt F)) :
    ((oM : Memref sig .tc .vmem S512x256 .f32).access r0 : View sig .tc _ _ _).write (Elt F) f w Finset.univ = w :=
  Memref.write_access_unit_zero_univ (Elt F) cc0_stg1_0 hz2 _ f w

/-! ## Which visits a device makes -/

/-- The word by which the kernel calls its own device. -/
abbrev selfW (c : Dev nD) : BitVec 32 := Scalar.remsi (Scalar.divsi (Dev.word c) 1#32) 8#32

/-- The kernel's test at the visit to device `k`: it is another device. -/
theorem visits (c k : Dev nD) :
    Scalar.cmpi .ne (Scalar.extui (Scalar.cmpi .ne (selfW c) (BitVec.ofNat 32 k.val)) : BitVec 32) 0#32 = 1#1 ↔ k ≠ c := by
  revert c k; decide +kernel

/-- A device's own tallies with its waits forgotten. -/
theorem owesE_intro (c : Dev nD) (O : CellTallies nD τ sig Unit) (W : Waits sig Unit) : owes (c : Thread nD τ) O W ⊢ (owesE c O : sProp 𝕄) := by
  unfold owesE; iintro H; iexists W; iexact H

theorem owesE_elim (c : Dev nD) (O : CellTallies nD τ sig Unit) : (owesE c O : sProp 𝕄) ⊢ iprop(∃ W : Waits sig Unit, owes (c : Thread nD τ) O W) := by
  unfold owesE; exact .rfl

/-- A device's own number is itself. -/
theorem wp_own_id {α : Type} (c : Dev nD) (k : Dev nD → Prog (TpuEff nD τ sig (Elt F) Λ₀ .tc) α) (Q : α → sProp 𝕄) :
    wp frame (wpE (defs₀ (F := F)) 𝒱₀ (c : Thread nD τ) none) Set.univ (.op .deviceId k) Q
      = wp frame (wpE (defs₀ (F := F)) 𝒱₀ (c : Thread nD τ) none) Set.univ (k c) Q := wp_deviceId ..

/-- A slot's full share is eight shares to lend and one that stays; -/
theorem slot_split (c k : Dev nD) : slotPts c k fullShare (gathered m ρ)
    ⊢ iprop(slotPts c k (shareDrop fullShare 8) (gathered m ρ) ∗ bigSep Finset.univ fun i : Dev nD => slotPts c k (shareTok fullShare 8 i) (gathered m ρ)) :=
  Transfers.pointsTo_toks_split fullShare 8
/-- and those make up the full share again. -/
theorem slot_join (c k : Dev nD) :
    iprop(slotPts c k (shareDrop fullShare 8) (gathered m ρ) ∗ bigSep Finset.univ fun i : Dev nD => slotPts c k (shareTok fullShare 8 i) (gathered m ρ))
      ⊢ slotPts c k fullShare (gathered m ρ) :=
  Transfers.pointsTo_toks_join fullShare 8

/-- Which devices' slots, tokens and credits a device deals with in its copies' phase: the right to pay its own send cell
    to `k` and `k`'s receive cell. -/
def sendToks (c : Dev nD) : sProp 𝕄 :=
  bigSep Finset.univ fun k => if k = c then iprop(emp) else iprop(dutyTok ER (sendCell c k) 0 c ∗ dutyTok ER (recvCell k c) 0 c)

/-- The slots received with the barrier, the shares of its own slot and the tokens make up what every copy takes; the
    share that would go to itself stays. -/
theorem sends_ready (c : Dev nD) :
    iprop((bigSep (Finset.univ.erase c) fun d : Dev nD => iprop(∃ f, slotPts d c fullShare f))
        ∗ (bigSep Finset.univ fun i : Dev nD => slotPts c c (shareTok fullShare 8 i) (gathered m ρ)) ∗ sendToks c)
      ⊢ iprop((bigSep Finset.univ fun k => SendIn m ρ c k) ∗ slotPts c c (shareTok fullShare 8 c) (gathered m ρ)) := by
  unfold sendToks SendIn
  rw [bigSep_but, bigSep_but, bigSep_univ_at _ c]
  simp only [bigSep_sep']
  iintro ⟨Hd, ⟨Hc, Hs⟩, Ht⟩
  isplitr [Hc]
  · isplitl [Hs]; · iexact Hs
    isplitl [Hd]; · iexact Hd
    iexact Ht
  · iexact Hc

/-- The shares of every other device's slot kept aside while the whole buffer is read. -/
def otherToks (c : Dev nD) : sProp 𝕄 :=
  bigSep Finset.univ fun k => if k = c then iprop(emp) else bigSep Finset.univ fun i : Dev nD => slotPts c k (shareTok fullShare 8 i) (gathered m ρ)

/-- The right to signal every other device. -/
def barToks (c : Dev nD) : sProp 𝕄 := bigSep Finset.univ fun k => if k = c then iprop(emp) else dutyTok ER (barCell k) 0 c

/-- The buffer at any contents and the rights to signal make up what every signal takes; its own slot stays. -/
theorem signals_ready (c : Dev nD) (f : Buf (Elt F) ((c : Thread nD τ).loc cc0_scratch0)) :
    iprop((((c : Thread nD τ).loc cc0_scratch0) ↦{fullShare} f) ∗ barToks c)
      ⊢ iprop((bigSep Finset.univ fun k => SigIn c k) ∗ slotPts c c fullShare f) := by
  unfold barToks SigIn
  rw [slots_whole, bigSep_but, bigSep_but, bigSep_univ_at _ c, bigSep_sep']
  iintro ⟨⟨Hc, Hs⟩, Ht⟩
  isplitr [Hc]
  · isplitl [Ht]; · iexact Ht
    have h : (bigSep (Finset.univ.erase c) fun k => slotPts c k fullShare f) ⊢ bigSep (Finset.univ.erase c) fun k => (iprop(∃ f, slotPts c k fullShare f) : sProp 𝕄) :=
      bigSep_mono fun k _ => show slotPts c k fullShare f ⊢ iprop(∃ f, slotPts c k fullShare f) by iintro H; iexists f; iexact H
    iapply h; iexact Hs
  · iexact Hc

/-- Every copy received: the buffer is whole at one share, with the rest of every other slot's shares aside. -/
theorem received (c : Dev nD) :
    iprop((bigSep Finset.univ fun k => RecvOut m ρ c k) ∗ slotPts c c (shareDrop fullShare 8) (gathered m ρ))
      ⊢ iprop((bigSep Finset.univ fun k => semVal (recvCell c k) 0)
          ∗ (((c : Thread nD τ).loc cc0_scratch0) ↦{shareDrop fullShare 8} gathered m ρ) ∗ otherToks m ρ c) := by
  unfold RecvOut otherToks
  rw [bigSep_sep', bigSep_but, bigSep_but, slots_whole, bigSep_univ_at (fun k => slotPts c k (shareDrop fullShare 8) (gathered m ρ)) c]
  iintro ⟨⟨Hz, Hs⟩, Hc⟩
  isplitl [Hz]; · iexact Hz
  have h : (bigSep (Finset.univ.erase c) fun k => slotPts c k fullShare (gathered m ρ))
      ⊢ iprop((bigSep (Finset.univ.erase c) fun k => slotPts c k (shareDrop fullShare 8) (gathered m ρ))
        ∗ bigSep (Finset.univ.erase c) fun k => bigSep Finset.univ fun i : Dev nD => slotPts c k (shareTok fullShare 8 i) (gathered m ρ)) :=
    (bigSep_mono fun k _ => slot_split m ρ c k).trans (Entails.of_eq (bigSep_sep' (Finset.univ.erase c) _ _))
  ihave Hs := h $$ Hs
  icases Hs with ⟨Hd, Ht⟩
  isplitr [Ht]
  · isplitl [Hc] <;> iassumption
  · iexact Ht

/-- Every own copy read, too: all the shares come together, and the buffer is held outright. -/
theorem restored (c : Dev nD) :
    iprop((((c : Thread nD τ).loc cc0_scratch0) ↦{shareDrop fullShare 8} gathered m ρ) ∗ otherToks m ρ c
        ∗ slotPts c c (shareTok fullShare 8 c) (gathered m ρ) ∗ bigSep Finset.univ fun k => DoneOut m ρ c k)
      ⊢ iprop((((c : Thread nD τ).loc cc0_scratch0) ↦{fullShare} gathered m ρ) ∗ bigSep Finset.univ fun k => semVal (sendCell c k) 0) := by
  unfold DoneOut otherToks
  rw [bigSep_sep', bigSep_but, bigSep_but, slots_whole, slots_whole, bigSep_univ_at (fun k => slotPts c k (shareDrop fullShare 8) (gathered m ρ)) c,
    bigSep_univ_at (fun k => slotPts c k fullShare (gathered m ρ)) c]
  iintro ⟨⟨Hc, Hd⟩, Ht, Hself, Hz, Hmine⟩
  isplitr [Hz]
  · isplitl [Hc Hself Hmine]
    · iapply (slot_join m ρ c c)
      rw [bigSep_univ_at (fun i : Dev nD => slotPts c c (shareTok fullShare 8 i) (gathered m ρ)) c]
      isplitl [Hc]; · iexact Hc
      isplitl [Hself] <;> iassumption
    · iapply ((Entails.of_eq (bigSep_sep' (Finset.univ.erase c) (fun k => slotPts c k (shareDrop fullShare 8) (gathered m ρ))
        (fun k => bigSep Finset.univ fun i : Dev nD => slotPts c k (shareTok fullShare 8 i) (gathered m ρ))).symm).trans (bigSep_mono fun k _ => slot_join m ρ c k))
      isplitl [Hd] <;> iassumption
  · iexact Hz

/-! ## The parts -/

/-- The first part: signal every other device that its slot here may be written, and load the block. -/
theorem part1 (c : Dev nD) (Kt : (Σ' (d0 : Dev nD) (v2 : BitVec 32) (v3 : Sems sig S_), FVec F S512x256 .f32) → sProp 𝕄) :
    iprop(records m ρ K ∗ owesE c (oB c devs) ∗ (bigSep Finset.univ fun k => SigIn c k) ∗ (((c : Thread nD τ).loc cc0_stg0_0) ↦{fullShare} xstg m ρ c)
        ∗ ((owesE c (oR c devs) ∗ (((c : Thread nD τ).loc cc0_stg0_0) ↦{fullShare} xstg m ρ c))
          -∗ Kt ⟨c, selfW c, SemArray.scalar (sig.barrier 0 rfl), k0_pay1 (xstg m ρ c)⟩))
      ⊢ wp frame (wpE (defs₀ (F := F)) 𝒱₀ (c : Thread nD τ) none) Set.univ
          (k0_part1 xM (Memref.isWhole_whole _) oM (Memref.isWhole_whole _) sM (Memref.isWhole_whole _) cc0_scratch1 cc0_scratch2) Kt := by
  rw [k0_part1_eq_skeleton]; unfold k0_part1_skel
  simp (zeta := false) only [semSignalWord, Prog.lift, Prog.bind_op, Prog.bind_ret, Prog.pure_eq_ret]
  rw [wp_own_id, bigSep_dev]
  iintro ⟨#HR, HO, ⟨S0, S1, S2, S3, S4, S5, S6, S7⟩, Hx, Hk⟩
  iapply (wp_visit_signal m ρ K c 0 [1, 2, 3, 4, 5, 6, 7] (visits c 0) (fun _ => rfl)) $$ [HO S0]
  · isplitr; · iexact HR
    isplitl [HO] <;> iassumption
  iintro HO
  iapply (wp_visit_signal m ρ K c 1 [2, 3, 4, 5, 6, 7] (visits c 1) (fun _ => rfl)) $$ [HO S1]
  · isplitr; · iexact HR
    isplitl [HO] <;> iassumption
  iintro HO
  iapply (wp_visit_signal m ρ K c 2 [3, 4, 5, 6, 7] (visits c 2) (fun _ => rfl)) $$ [HO S2]
  · isplitr; · iexact HR
    isplitl [HO] <;> iassumption
  iintro HO
  iapply (wp_visit_signal m ρ K c 3 [4, 5, 6, 7] (visits c 3) (fun _ => rfl)) $$ [HO S3]
  · isplitr; · iexact HR
    isplitl [HO] <;> iassumption
  iintro HO
  iapply (wp_visit_signal m ρ K c 4 [5, 6, 7] (visits c 4) (fun _ => rfl)) $$ [HO S4]
  · isplitr; · iexact HR
    isplitl [HO] <;> iassumption
  iintro HO
  iapply (wp_visit_signal m ρ K c 5 [6, 7] (visits c 5) (fun _ => rfl)) $$ [HO S5]
  · isplitr; · iexact HR
    isplitl [HO] <;> iassumption
  iintro HO
  iapply (wp_visit_signal m ρ K c 6 [7] (visits c 6) (fun _ => rfl)) $$ [HO S6]
  · isplitr; · iexact HR
    isplitl [HO] <;> iassumption
  iintro HO
  iapply (wp_visit_signal m ρ K c 7 [] (visits c 7) (fun _ => rfl)) $$ [HO S7]
  · isplitr; · iexact HR
    isplitl [HO] <;> iassumption
  iintro HO
  rw [oB_nil]
  iapply (wp_load 𝒱₀ (c : Thread nD τ) none Set.univ (m := xM) (Finset.subset_univ _)) $$ Hx; iintro Hx
  rw [read_x, wp_ret]; imodintro
  iapply Hk
  isplitl [HO] <;> iassumption

/-- The second part: the statistics into its own slot, the wait for every other device's signal, and the copies to the first
    six devices. -/
theorem part2 (c : Dev nD) (f : Buf (Elt F) ((c : Thread nD τ).loc cc0_scratch0))
    (Kt : (Σ' (v34 : FVec F S512x256 .f32) (v38 : FVec F S2x512 .f32) (v62 : BitVec 32), BitVec 32) → sProp 𝕄) :
    iprop(records m ρ K ∗ levAts L lv ∗ owesE c (oR c devs) ∗ slotPts c c fullShare f ∗ atPos ER (barCell c) 0 ∅ 0
        ∗ cred (tallyAt (barCell c) () 7) ∗ sendToks c
        ∗ ((owesE c (oR c [6, 7]) ∗ (SendIn m ρ c 6 ∗ SendIn m ρ c 7)
            ∗ (SendOut c 0 ∗ SendOut c 1 ∗ SendOut c 2 ∗ SendOut c 3 ∗ SendOut c 4 ∗ SendOut c 5)
            ∗ semVal (barCell c) 0 ∗ slotPts c c (shareDrop fullShare 8) (gathered m ρ) ∗ slotPts c c (shareTok fullShare 8 c) (gathered m ρ))
          -∗ Kt ⟨k0_pay3 (xAt m ρ c), k0_pay4 (xAt m ρ c), Scalar.extui (Scalar.cmpi .ne (selfW c) 6#32), 0#32⟩))
      ⊢ wp frame (wpE (defs₀ (F := F)) 𝒱₀ (c : Thread nD τ) none) Set.univ
          (k0_part2 xM (Memref.isWhole_whole _) oM (Memref.isWhole_whole _) sM (Memref.isWhole_whole _) cc0_scratch1 cc0_scratch2
            c (selfW c) (SemArray.scalar (sig.barrier 0 rfl)) (xAt m ρ c)) Kt := by
  rw [k0_part2_eq_skeleton]; unfold k0_part2_skel
  simp (zeta := false) only [semWaitWord, Prog.lift, Prog.bind_op, Prog.bind_ret, Prog.pure_eq_ret]
  iintro ⟨#HR, #Hlev, HO, Hs, HatB, HcB, Ht, Hk⟩
  iapply (wp_own_store m ρ c f (k0_off1_eq c)) $$ Hs
  iintro Hs
  ihave HO := (owesE_elim c _) $$ HO
  icases HO with ⟨%W, HO⟩
  iapply (Rounds.wp_wait_rest_token 𝒱₀ ER (Rd m ρ) (c : Thread nD τ) none (κ := K (c, none))
      (wpE_semWait_eq 𝒱₀ (c : Thread nD τ) none Set.univ) (Set.mem_univ _) () (O := oR c devs) (W := W) (R := 0) (m := 0) (T := ∅)
      (by rw [expect_bar]; decide)) $$ [HcB HO HatB]
  · isplitr; · iapply (inv_at m ρ K (c, none)); iexact HR
    isplitl [HcB]; · iexact HcB
    isplitl [HO]; · iexact HO
    isplitr; · iapply (mayWait_bar c devs); iexact Hlev
    iexact HatB
  iintro ⟨HO, HatB, -, Hpay⟩
  ihave Hp := (Entails.of_eq (rest_bar m ρ c)) $$ Hpay
  imod (Rounds.cell_close ER (Rd m ρ) (Set.mem_univ (K (c, none))) (fun h => h) (R := 0 + 1) (duties_later m ρ (barCell c))) $$ [HatB] with HzB
  · isplitr; · iapply (inv_at m ρ K (c, none)); iexact HR
    iexact HatB
  ihave Hsp := (slot_split m ρ c c) $$ Hs
  icases Hsp with ⟨Hdrop, Htoks⟩
  ihave Hin := (sends_ready m ρ c) $$ [Hp Htoks Ht]
  · isplitl [Hp]; · iexact Hp
    isplitl [Htoks] <;> iassumption
  icases Hin with ⟨Hin, Hself⟩
  ihave Hin := (Entails.of_eq (bigSep_dev fun k => SendIn m ρ c k)) $$ Hin
  icases Hin with ⟨S0, S1, S2, S3, S4, S5, S6, S7⟩
  ihave HO := (owesE_intro c (oR c devs) _) $$ HO
  iapply (wp_visit_send m ρ K c 0 [1, 2, 3, 4, 5, 6, 7] (visits c 0) (fun _ => rfl) rfl (k0_off2_eq c) (k0_off3_eq c)) $$ [HO S0]
  · isplitr; · iexact HR
    isplitl [HO] <;> iassumption
  iintro ⟨HO, C0⟩
  iapply (wp_visit_send m ρ K c 1 [2, 3, 4, 5, 6, 7] (visits c 1) (fun _ => rfl) rfl (k0_off4_eq c) (k0_off5_eq c)) $$ [HO S1]
  · isplitr; · iexact HR
    isplitl [HO] <;> iassumption
  iintro ⟨HO, C1⟩
  iapply (wp_visit_send m ρ K c 2 [3, 4, 5, 6, 7] (visits c 2) (fun _ => rfl) rfl (k0_off6_eq c) (k0_off7_eq c)) $$ [HO S2]
  · isplitr; · iexact HR
    isplitl [HO] <;> iassumption
  iintro ⟨HO, C2⟩
  iapply (wp_visit_send m ρ K c 3 [4, 5, 6, 7] (visits c 3) (fun _ => rfl) rfl (k0_off8_eq c) (k0_off9_eq c)) $$ [HO S3]
  · isplitr; · iexact HR
    isplitl [HO] <;> iassumption
  iintro ⟨HO, C3⟩
  iapply (wp_visit_send m ρ K c 4 [5, 6, 7] (visits c 4) (fun _ => rfl) rfl (k0_off10_eq c) (k0_off11_eq c)) $$ [HO S4]
  · isplitr; · iexact HR
    isplitl [HO] <;> iassumption
  iintro ⟨HO, C4⟩
  iapply (wp_visit_send m ρ K c 5 [6, 7] (visits c 5) (fun _ => rfl) rfl (k0_off12_eq c) (k0_off13_eq c)) $$ [HO S5]
  · isplitr; · iexact HR
    isplitl [HO] <;> iassumption
  iintro ⟨HO, C5⟩
  rw [wp_ret]; imodintro
  iapply Hk
  isplitl [HO]; · iexact HO
  isplitl [S6 S7]; · isplitl [S6] <;> iassumption
  isplitl [C0 C1 C2 C3 C4 C5]
  · isplitl [C0]; · iexact C0
    isplitl [C1]; · iexact C1
    isplitl [C2]; · iexact C2
    isplitl [C3]; · iexact C3
    isplitl [C4] <;> iassumption
  isplitl [HzB]; · iexact HzB
  isplitl [Hdrop] <;> iassumption

set_option maxHeartbeats 1000000 in
/-- The third part: the last two copies, the wait for every other device's copy, and the load of all the statistics. -/
theorem part3 (c : Dev nD) (w : BitVec 32) (Kt : Vec F S8x2x512 .f32 → sProp 𝕄) :
    iprop(records m ρ K ∗ owesE c (oR c [6, 7]) ∗ (SendIn m ρ c 6 ∗ SendIn m ρ c 7) ∗ (bigSep Finset.univ fun k => RecvIn c k)
        ∗ slotPts c c (shareDrop fullShare 8) (gathered m ρ)
        ∗ ((owesE c 0 ∗ (SendOut c 6 ∗ SendOut c 7) ∗ (bigSep Finset.univ fun k => semVal (recvCell c k) 0)
            ∗ (((c : Thread nD τ).loc cc0_scratch0) ↦{shareDrop fullShare 8} gathered m ρ) ∗ otherToks m ρ c)
          -∗ Kt (gathered m ρ)))
      ⊢ wp frame (wpE (defs₀ (F := F)) 𝒱₀ (c : Thread nD τ) none) Set.univ
          (k0_part3 xM (Memref.isWhole_whole _) oM (Memref.isWhole_whole _) sM (Memref.isWhole_whole _) cc0_scratch1 cc0_scratch2
            c (selfW c) w 0#32) Kt := by
  rw [k0_part3_eq_skeleton]; unfold k0_part3_skel
  simp (zeta := false) only [Prog.lift, Prog.bind_op, Prog.bind_ret, Prog.pure_eq_ret]
  rw [bigSep_dev (fun k => RecvIn c k)]
  iintro ⟨#HR, HO, ⟨S6, S7⟩, ⟨R0, R1, R2, R3, R4, R5, R6, R7⟩, Hdrop, Hk⟩
  iapply (wp_visit_send m ρ K c 6 [7] (visits c 6) (fun _ => rfl) rfl (k0_off14_eq c) (k0_off15_eq c)) $$ [HO S6]
  · isplitr; · iexact HR
    isplitl [HO] <;> iassumption
  iintro ⟨HO, C6⟩
  iapply (wp_visit_send m ρ K c 7 [] (visits c 7) (fun _ => rfl) rfl (k0_off16_eq c) (k0_off17_eq c)) $$ [HO S7]
  · isplitr; · iexact HR
    isplitl [HO] <;> iassumption
  iintro ⟨HO, C7⟩
  rw [oR_nil]
  iapply (wp_visit_recv m ρ K c 0 (visits c 0) rfl rfl) $$ [HO R0]
  · isplitr; · iexact HR
    isplitl [HO] <;> iassumption
  iintro ⟨HO, R0⟩
  iapply (wp_visit_recv m ρ K c 1 (visits c 1) rfl rfl) $$ [HO R1]
  · isplitr; · iexact HR
    isplitl [HO] <;> iassumption
  iintro ⟨HO, R1⟩
  iapply (wp_visit_recv m ρ K c 2 (visits c 2) rfl rfl) $$ [HO R2]
  · isplitr; · iexact HR
    isplitl [HO] <;> iassumption
  iintro ⟨HO, R2⟩
  iapply (wp_visit_recv m ρ K c 3 (visits c 3) rfl rfl) $$ [HO R3]
  · isplitr; · iexact HR
    isplitl [HO] <;> iassumption
  iintro ⟨HO, R3⟩
  iapply (wp_visit_recv m ρ K c 4 (visits c 4) rfl rfl) $$ [HO R4]
  · isplitr; · iexact HR
    isplitl [HO] <;> iassumption
  iintro ⟨HO, R4⟩
  iapply (wp_visit_recv m ρ K c 5 (visits c 5) rfl rfl) $$ [HO R5]
  · isplitr; · iexact HR
    isplitl [HO] <;> iassumption
  iintro ⟨HO, R5⟩
  iapply (wp_visit_recv m ρ K c 6 (visits c 6) rfl rfl) $$ [HO R6]
  · isplitr; · iexact HR
    isplitl [HO] <;> iassumption
  iintro ⟨HO, R6⟩
  iapply (wp_visit_recv m ρ K c 7 (visits c 7) rfl rfl) $$ [HO R7]
  · isplitr; · iexact HR
    isplitl [HO] <;> iassumption
  iintro ⟨HO, R7⟩
  ihave Hrecv := (received m ρ c) $$ [R0 R1 R2 R3 R4 R5 R6 R7 Hdrop]
  · rw [bigSep_dev (fun k => RecvOut m ρ c k)]
    isplitr [Hdrop]
    · isplitl [R0]; · iexact R0
      isplitl [R1]; · iexact R1
      isplitl [R2]; · iexact R2
      isplitl [R3]; · iexact R3
      isplitl [R4]; · iexact R4
      isplitl [R5]; · iexact R5
      isplitl [R6] <;> iassumption
    · iexact Hdrop
  icases Hrecv with ⟨Hz, Hs, Hoth⟩
  iapply (wp_load 𝒱₀ (c : Thread nD τ) none Set.univ (m := sM) (Finset.subset_univ _)) $$ Hs; iintro Hs
  rw [read_s, wp_ret]; imodintro
  iapply Hk
  isplitl [HO]; · iexact HO
  isplitl [C6 C7]; · isplitl [C6] <;> iassumption
  isplitl [Hz]; · iexact Hz
  isplitl [Hs] <;> iassumption

/-- The fourth part: the result stored, and the wait for the copies to the first five devices. -/
theorem part4 (c : Dev nD) (g : (cc0_stg1_0 : Ref sig .tc).ty.Contents (Elt F)) (v34 : FVec F S512x256 .f32) (v38 : FVec F S2x512 .f32) (v91 : Vec F S8x2x512 .f32)
    (Kt : PUnit → sProp 𝕄) :
    iprop(records m ρ K ∗ owesE c 0 ∗ (((c : Thread nD τ).loc cc0_stg1_0) ↦{fullShare} g)
        ∗ (DoneIn c 0 ∗ DoneIn c 1 ∗ DoneIn c 2 ∗ DoneIn c 3 ∗ DoneIn c 4)
        ∗ ((owesE c 0 ∗ (((c : Thread nD τ).loc cc0_stg1_0) ↦{fullShare} (k0_pay6 v34 v38 v91 : (cc0_stg1_0 : Ref sig .tc).ty.Contents (Elt F)))
            ∗ DoneOut m ρ c 0 ∗ DoneOut m ρ c 1 ∗ DoneOut m ρ c 2 ∗ DoneOut m ρ c 3 ∗ DoneOut m ρ c 4)
          -∗ Kt ⟨⟩))
      ⊢ wp frame (wpE (defs₀ (F := F)) 𝒱₀ (c : Thread nD τ) none) Set.univ
          (k0_part4 xM (Memref.isWhole_whole _) oM (Memref.isWhole_whole _) sM (Memref.isWhole_whole _) cc0_scratch1 cc0_scratch2
            c (selfW c) v34 v38 v91) Kt := by
  rw [k0_part4_eq_skeleton]; unfold k0_part4_skel
  simp (zeta := false) only [Prog.lift, Prog.bind_op, Prog.bind_ret, Prog.pure_eq_ret]
  iintro ⟨#HR, HO, Hout, ⟨D0, D1, D2, D3, D4⟩, Hk⟩
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_out]
  iapply (wp_visit_done m ρ K c 0 (visits c 0) rfl (k0_off18_eq c)) $$ [HO D0]
  · isplitr; · iexact HR
    isplitl [HO] <;> iassumption
  iintro ⟨HO, D0⟩
  iapply (wp_visit_done m ρ K c 1 (visits c 1) rfl (k0_off19_eq c)) $$ [HO D1]
  · isplitr; · iexact HR
    isplitl [HO] <;> iassumption
  iintro ⟨HO, D1⟩
  iapply (wp_visit_done m ρ K c 2 (visits c 2) rfl (k0_off20_eq c)) $$ [HO D2]
  · isplitr; · iexact HR
    isplitl [HO] <;> iassumption
  iintro ⟨HO, D2⟩
  iapply (wp_visit_done m ρ K c 3 (visits c 3) rfl (k0_off21_eq c)) $$ [HO D3]
  · isplitr; · iexact HR
    isplitl [HO] <;> iassumption
  iintro ⟨HO, D3⟩
  iapply (wp_visit_done m ρ K c 4 (visits c 4) rfl (k0_off22_eq c)) $$ [HO D4]
  · isplitr; · iexact HR
    isplitl [HO] <;> iassumption
  iintro ⟨HO, D4⟩
  rw [wp_ret]; imodintro
  iapply Hk
  isplitl [HO]; · iexact HO
  isplitl [Hout]; · iexact Hout
  isplitl [D0]; · iexact D0
  isplitl [D1]; · iexact D1
  isplitl [D2]; · iexact D2
  isplitl [D3] <;> iassumption

end Cert.KernelIdealProof

end
-- ==== Proof.KernelIdeal.Body.lean ====
/-
The kernel's whole body on one device, and the library's obligation about it: from the launch's resources to the result in
its staging buffer, the statistics buffer whole and every semaphore back at zero.
-/
module

public import proofs.«01_k».proof.Proof.KernelIdeal.Parts

@[expose] public section

noncomputable section

namespace Cert.KernelIdealProof

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg) (K : Dev nD × CIx → ℕ)

/-! ## The body, from its resources to its results -/

/-- What the exchange takes on device `c`: its positions at its own cells, the rights to pay the others', and the credits
    for what it will be paid. -/
def exchIn (c : Dev nD) : sProp 𝕄 :=
  iprop(atPos ER (barCell c) 0 ∅ 0 ∗ cred (tallyAt (barCell c) () 7) ∗ barToks c ∗ sendToks c
    ∗ (bigSep Finset.univ fun k => RecvIn c k) ∗ bigSep Finset.univ fun k => atPos ER (sendCell c k) 0 ∅ 0)

/-- What it leaves: every counter at zero. -/
def exchOut (c : Dev nD) : sProp 𝕄 :=
  iprop(semVal (barCell c) 0 ∗ (bigSep Finset.univ fun k => semVal (sendCell c k) 0) ∗ bigSep Finset.univ fun k => semVal (recvCell c k) 0)

/-- The body on device `c`. -/
theorem run_body (c : Dev nD) (f : Buf (Elt F) ((c : Thread nD τ).loc cc0_scratch0)) (g : (cc0_stg1_0 : Ref sig .tc).ty.Contents (Elt F)) (Kt : PUnit → sProp 𝕄) :
    iprop(records m ρ K ∗ levAts L lv ∗ owesE c (O₀ c) ∗ exchIn c ∗ (((c : Thread nD τ).loc cc0_scratch0) ↦{fullShare} f)
        ∗ (((c : Thread nD τ).loc cc0_stg0_0) ↦{fullShare} xstg m ρ c) ∗ (((c : Thread nD τ).loc cc0_stg1_0) ↦{fullShare} g)
        ∗ ((owesE c 0 ∗ exchOut c ∗ (((c : Thread nD τ).loc cc0_scratch0) ↦{fullShare} gathered m ρ)
            ∗ (((c : Thread nD τ).loc cc0_stg0_0) ↦{fullShare} xstg m ρ c) ∗ (((c : Thread nD τ).loc cc0_stg1_0) ↦{fullShare} outAt m ρ c))
          -∗ Kt ⟨⟩))
      ⊢ wp frame (wpE (defs₀ (F := F)) 𝒱₀ (c : Thread nD τ) none) Set.univ
          (cc0_body xM (Memref.isWhole_whole _) oM (Memref.isWhole_whole _) sM (Memref.isWhole_whole _) cc0_scratch1 cc0_scratch2) Kt := by
  rw [cc0_body_eq_skeleton]; unfold cc0_body_skel exchIn exchOut O₀
  simp (zeta := false) only [Prog.lift, Prog.bind_op, Prog.bind_ret, Prog.pure_eq_ret]
  iintro ⟨#HR, #Hlev, HO, ⟨HatB, HcB, HbT, HsT, Hrecv, HatS⟩, Hs, Hx, Hout, Hk⟩
  ihave Hsig := (signals_ready c f) $$ [Hs HbT]
  · isplitl [Hs] <;> iassumption
  icases Hsig with ⟨Hsig, Hself⟩
  rw [wp_bind]
  iapply (part1 m ρ K c)
  isplitr; · iexact HR
  isplitl [HO]; · iexact HO
  isplitl [Hsig]; · iexact Hsig
  isplitl [Hx]; · iexact Hx
  iintro ⟨HO, Hx⟩
  try dsimp (zeta := false) only
  rw [wp_bind]
  iapply (part2 m ρ K c f)
  isplitr; · iexact HR
  isplitr; · iexact Hlev
  isplitl [HO]; · iexact HO
  isplitl [Hself]; · iexact Hself
  isplitl [HatB]; · iexact HatB
  isplitl [HcB]; · iexact HcB
  isplitl [HsT]; · iexact HsT
  iintro ⟨HO, Hsend, ⟨C0, C1, C2, C3, C4, C5⟩, HzB, Hdrop, Htok⟩
  try dsimp (zeta := false) only
  rw [wp_bind]
  iapply (part3 m ρ K c)
  isplitr; · iexact HR
  isplitl [HO]; · iexact HO
  isplitl [Hsend]; · iexact Hsend
  isplitl [Hrecv]; · iexact Hrecv
  isplitl [Hdrop]; · iexact Hdrop
  iintro ⟨HO, ⟨C6, C7⟩, HzR, Hs, Hoth⟩
  try dsimp (zeta := false) only
  ihave HatS := (Entails.of_eq (bigSep_dev fun k => (atPos ER (sendCell c k) 0 ∅ 0 : sProp 𝕄))) $$ HatS
  icases HatS with ⟨A0, A1, A2, A3, A4, A5, A6, A7⟩
  rw [wp_bind]
  iapply (part4 m ρ K c g)
  isplitr; · iexact HR
  isplitl [HO]; · iexact HO
  isplitl [Hout]; · iexact Hout
  isplitl [A0 C0 A1 C1 A2 C2 A3 C3 A4 C4]
  · unfold DoneIn
    isplitl [A0 C0]; · isplitl [A0] <;> iassumption
    isplitl [A1 C1]; · isplitl [A1] <;> iassumption
    isplitl [A2 C2]; · isplitl [A2] <;> iassumption
    isplitl [A3 C3]; · isplitl [A3] <;> iassumption
    isplitl [A4] <;> iassumption
  iintro ⟨HO, Hout, D0, D1, D2, D3, D4⟩
  try dsimp (zeta := false) only
  iapply (wp_visit_done m ρ K c 5 (visits c 5) rfl (k0_off23_eq c)) $$ [HO A5 C5]
  · isplitr; · iexact HR
    isplitl [HO]; · iexact HO
    unfold DoneIn; isplitl [A5] <;> iassumption
  iintro ⟨HO, D5⟩
  iapply (wp_visit_done m ρ K c 6 (visits c 6) rfl (k0_off24_eq c)) $$ [HO A6 C6]
  · isplitr; · iexact HR
    isplitl [HO]; · iexact HO
    unfold DoneIn; isplitl [A6] <;> iassumption
  iintro ⟨HO, D6⟩
  iapply (wp_visit_done m ρ K c 7 (visits c 7) rfl (k0_off25_eq c)) $$ [HO A7 C7]
  · isplitr; · iexact HR
    isplitl [HO]; · iexact HO
    unfold DoneIn; isplitl [A7] <;> iassumption
  iintro ⟨HO, D7⟩
  ihave Hres := (restored m ρ c) $$ [Hs Hoth Htok D0 D1 D2 D3 D4 D5 D6 D7]
  · isplitl [Hs]; · iexact Hs
    isplitl [Hoth]; · iexact Hoth
    isplitl [Htok]; · iexact Htok
    rw [bigSep_dev (fun k => DoneOut m ρ c k)]
    isplitl [D0]; · iexact D0
    isplitl [D1]; · iexact D1
    isplitl [D2]; · iexact D2
    isplitl [D3]; · iexact D3
    isplitl [D4]; · iexact D4
    isplitl [D5]; · iexact D5
    isplitl [D6] <;> iassumption
  icases Hres with ⟨Hs, HzS⟩
  rw [wp_ret]; imodintro
  iapply Hk
  isplitl [HO]; · iexact HO
  isplitl [HzB HzS HzR]
  · isplitl [HzB]; · iexact HzB
    isplitl [HzS] <;> iassumption
  isplitl [Hs]; · iexact Hs
  isplitl [Hx]; · iexact Hx
  iexact Hout

/-! ## The pipeline's data for the one grid point -/

theorem cfg0_N : cfg0.N = 1 := by decide
/-- The one grid point. -/
def t₀ : Fin cfg0.N := ⟨0, by rw [cfg0_N]; exact Nat.one_pos⟩
theorem fin_N (t : Fin cfg0.N) : t = t₀ := by
  apply Fin.ext
  have h := t.isLt
  have hN := cfg0_N
  show t.val = 0
  omega

/-- What a device starts its grid point with, besides the statistics buffer. -/
def start (c : Dev nD) : sProp 𝕄 := iprop((∃ K, records m ρ K) ∗ exchIn c ∗ levAts L lv)

/-- Before the point: the statistics buffer at any contents. After it: at what was gathered, every counter at zero. -/
def Φ₀ (c : Dev nD) : sProp 𝕄 := iprop(start m ρ c ∗ ∃ f, (((c : Thread nD τ).loc cc0_scratch0) ↦{fullShare} f))
def Φ₁ (c : Dev nD) : sProp 𝕄 := iprop((((c : Thread nD τ).loc cc0_scratch0) ↦{fullShare} gathered m ρ) ∗ exchOut c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))
def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

/-- The library's obligation on device `c`: the one grid point's body, from what the pipeline hands it to what it hands back. -/
theorem body_obligation (c : Dev nD) : BodyObligation (dats (F := F) m ρ 0 c) (defs₀ (F := F)) 𝒱₀ () Set.univ := fun t => by
  rw [fin_N t, bigSep_W0, bigSep_W0]
  simp only [owns_whole_eq]
  show bodyPre m ρ c ⊢ wp frame (wpE (defs₀ (F := F)) 𝒱₀ c none) Set.univ
    (cc0_body xM (Memref.isWhole_whole _) oM (Memref.isWhole_whole _) sM (Memref.isWhole_whole _) cc0_scratch1 cc0_scratch2) (fun _ => bodyPost m ρ c)
  unfold bodyPre Φ₀ start Dat.owesAt Pipeline.owesWithin
  iintro ⟨⟨⟨⟨%K, HR⟩, Hex, Hlev⟩, ⟨%f, Hs⟩⟩, ⟨%W, %hW, HO⟩, ⟨%d0, %g0, %hg0, Hx⟩, ⟨%d1, %g1, %hg1, Hout⟩⟩
  have hx : g0 = xstg m ρ c := by rw [hg0]; unfold Dat.before; rw [if_pos (fetch_0 t₀)]; rfl
  subst hx
  iapply (run_body m ρ K c f g1 fun _ => bodyPost m ρ c)
  isplitl [HR]; · iexact HR
  isplitl [Hlev]; · iexact Hlev
  isplitl [HO]; · iapply (owesE_intro c (O₀ c) W); iexact HO
  isplitl [Hex]; · iexact Hex
  isplitl [Hs]; · iexact Hs
  isplitl [Hx]; · iexact Hx
  isplitl [Hout]; · iexact Hout
  iintro ⟨HO, Hex, Hs, Hx, Hout⟩
  unfold bodyPost Φ₁ Dat.owesAt Pipeline.owesWithin
  ihave HO := (owesE_elim c 0) $$ HO
  icases HO with ⟨%W', HO⟩
  isplitl [Hs Hex]
  · isplitl [Hs] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

end Cert.KernelIdealProof

end
-- ==== Proof.KernelIdeal.Launch.lean ====
/-
The launch: the cells' ghost state is minted, the right to pay each duty is dealt to the device that pays it, the launch's
credits are shown to be what the devices owe, and the run of `main` on the eight devices follows: it terminates with every
result array at the computed contents, the argument unchanged and every semaphore counter at zero.
-/
module

public import proofs.«01_k».proof.Proof.KernelIdeal.Body
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg) (K : Dev nD × CIx → ℕ)

/-! ## Minting and dealing -/

theorem ownSemFacts : Pipeline.OwnSemFacts cfg0.spec osem := by decide

theorem share_eq (c : Dev nD) (w : Fin cfg0.W) : (dats m ρ 0 c).share w = fullShare := by unfold Dat.share; split <;> rfl

def exchCells : Finset (GSem nD τ sig) := Finset.univ.map ⟨kcell, kcell_injective⟩

/-- The kinds of duty. -/
abbrev Kind : Type := Fin 3
/-- Which of its cells a device's token of a kind, for the device `k`, is about; -/
def tokIx (k : Dev nD) : Kind → CIx
  | 0 => none | 1 => some (true, k) | 2 => some (false, k)
/-- and who pays it. -/
def tokBy (c k : Dev nD) : Kind → Dev nD
  | 0 => k | 1 => c | 2 => k
abbrev tokOf (x : Dev nD × Dev nD × Kind) : GSem nD τ sig × ℕ × Dev nD := (kcell (x.1, tokIx x.2.1 x.2.2), 0, tokBy x.1 x.2.1 x.2.2)
theorem tok_inj (c : Dev nD) : ∀ y y' : Dev nD × Kind, (tokIx y.1 y.2, tokBy c y.1 y.2) = (tokIx y'.1 y'.2, tokBy c y'.1 y'.2) → y = y' := by
  rintro ⟨k, i⟩ ⟨k', i'⟩ h
  have h1 := congrArg Prod.fst h
  have h2 := congrArg Prod.snd h
  fin_cases i <;> fin_cases i' <;> simp [tokIx, tokBy] at h1 h2 ⊢ <;> assumption
theorem tokOf_injective : Function.Injective tokOf := by
  rintro ⟨c, y⟩ ⟨c', y'⟩ h
  have h1 := kcell_injective (congrArg Prod.fst h)
  have hc : c = c' := congrArg Prod.fst h1
  subst hc
  have h2 : tokBy c y.1 y.2 = tokBy c y'.1 y'.2 := congrArg (fun x : GSem nD τ sig × ℕ × Dev nD => x.2.2) h
  rw [tok_inj c y y' (Prod.ext (congrArg Prod.snd h1) h2)]
def exchToks : Finset (GSem nD τ sig × ℕ × Dev nD) := Finset.univ.map ⟨tokOf, tokOf_injective⟩

def u₀ : UU :=
  (initOf (Pipeline.cells cfgs cellOf_inj) (Pipeline.launchToks cfgs cellOf_inj), initOf exchCells exchToks)

/-- The duty tokens of device `c`'s own cells. -/
def toks (c : Dev nD) : sProp 𝕄 :=
  iprop((bigSep Finset.univ fun k => dutyTok ER (barCell c) 0 k) ∗ (bigSep Finset.univ fun k => dutyTok ER (sendCell c k) 0 c)
    ∗ bigSep Finset.univ fun k => dutyTok ER (recvCell c k) 0 k)

/-- What the launch deals device `c`; -/
def G (c : Dev nD) : sProp 𝕄 :=
  iprop((bigSep Finset.univ fun i : CIx => roundState ER (Rd m ρ) (kcell (c, i)) 0)
    ∗ (bigSep Finset.univ fun i : CIx => iprop(atPos ER (kcell (c, i)) 0 ∅ 0 ∗ reached ER (kcell (c, i)) 0)) ∗ toks c)

/-- what stays with it: its positions, and the tokens of the duties it pays; -/
def linear (c : Dev nD) : sProp 𝕄 :=
  iprop((bigSep Finset.univ fun i : CIx => atPos ER (kcell (c, i)) 0 ∅ 0) ∗ barToks c ∗ sendToks c)
/-- and what the global step makes of it all. -/
def G' (c : Dev nD) : sProp 𝕄 := iprop((∃ K, records m ρ K) ∗ linear c)

theorem bigSep_kind (Φ : Kind → sProp 𝕄) : bigSep Finset.univ Φ = iprop(Φ 0 ∗ Φ 1 ∗ Φ 2) := bigSep_univ_eq_bigSepL [0, 1, 2] (by decide) (by decide) Φ

/-- A device's cells: the barrier, the send cells, the receive cells. -/
theorem bigSep_cix (Φ : CIx → sProp 𝕄) : bigSep Finset.univ Φ
    = iprop(Φ none ∗ (bigSep Finset.univ fun k => Φ (some (true, k))) ∗ bigSep Finset.univ fun k => Φ (some (false, k))) := by
  have h : (Finset.univ.erase none : Finset CIx) = (Finset.univ : Finset (Bool × Dev nD)).map ⟨some, Option.some_injective _⟩ := by decide
  rw [bigSep_univ_at _ none, h, bigSep_map, bigSep_univ_prod, bigSep_univ_eq_bigSepL [true, false] (by decide) (by decide)]
  rfl

theorem fund_exch : BI.own (ER (initOf exchCells exchToks)) ⊢ (|==> bigSep Finset.univ (G m ρ) : sProp 𝕄) := by
  have hX (Φ : GSem nD τ sig → sProp 𝕄) : bigSep exchCells Φ = bigSep Finset.univ fun c : Dev nD => bigSep Finset.univ fun i : CIx => Φ (kcell (c, i)) := by
    unfold exchCells; rw [bigSep_map, bigSep_univ_prod]; rfl
  have hT : bigSep exchToks (fun x => (dutyTok ER x.1 x.2.1 x.2.2 : sProp 𝕄)) = bigSep Finset.univ fun c : Dev nD => toks c := by
    unfold exchToks; rw [bigSep_map, bigSep_univ_prod]
    refine bigSep_congr fun c _ => ?_
    unfold toks
    rw [bigSep_univ_prod, bigSep_congr (s := Finset.univ) (fun (k : Dev nD) _ => bigSep_kind _), bigSep_sep', bigSep_sep']
    rfl
  iintro HX
  imod (Rounds.fund ER (Rd m ρ) exchCells exchToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop((bigSep Finset.univ fun k => semVal (sendCell c k) 0) ∗ bigSep Finset.univ fun k => semVal (recvCell c k) 0) := by
  unfold Pipeline.ownSems0
  rw [bigSep_univ_prod, bigSep_univ_eq_bigSepL [true, false] (by decide) (by decide)]
  rfl
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CIx => semVal (kcell (c, i)) 0 : sProp 𝕄) := by
  rw [ownSems0_eq, unscopedSems0_eq, bigSep_cix]
  iintro ⟨⟨HS, HV⟩, HB⟩
  isplitl [HB]; · iexact HB
  isplitl [HS]; · iexact HS
  iexact HV

/-- Each device turns its counters and round states into invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i => iprop(∃ κ : ℕ, cellInv ER (Rd m ρ) κ (kcell (c, i))))
          ∗ (bigSep Finset.univ fun i => iprop(atPos ER (kcell (c, i)) 0 ∅ 0 ∗ reached ER (kcell (c, i)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : CIx => semVal (kcell (c, i)) 0) ∗ bigSep Finset.univ fun i : CIx => roundState ER (Rd m ρ) (kcell (c, i)) 0)
      ⊢ (|={Set.univ}=> bigSep Finset.univ fun i => iprop(∃ κ : ℕ, cellInv ER (Rd m ρ) κ (kcell (c, i))) : sProp 𝕄) from by
        rw [← bigSep_sep']
        exact (bigSep_mono fun i _ => (Rounds.body_intro ER (Rd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

theorem drop_to_emp (P : sProp 𝕄) : P ⊢ iprop(emp) := by iintro -; iempintro

/-- A resource for every device, given up where it is not wanted. -/
theorem but_intro (c : Dev nD) (Φ : Dev nD → sProp 𝕄) :
    bigSep Finset.univ Φ ⊢ bigSep Finset.univ fun k => if k = c then iprop(emp) else Φ k := bigSep_mono fun k _ => by
  by_cases h : k = c
  · rw [if_pos h]; exact drop_to_emp _
  · rw [if_neg h]; exact .refl _

/-- The tokens of the duties device `c` pays, its own cells with itself among them. -/
theorem toks_pay (c : Dev nD) : iprop((bigSep Finset.univ fun k => dutyTok ER (barCell k) 0 c)
      ∗ (bigSep Finset.univ fun k => dutyTok ER (sendCell c k) 0 c) ∗ (bigSep Finset.univ fun k => dutyTok ER (recvCell k c) 0 c))
    ⊢ (iprop(barToks c ∗ sendToks c) : sProp 𝕄) := by
  unfold barToks sendToks
  iintro ⟨H1, H2, H3⟩
  isplitl [H1]
  · iapply (but_intro c fun k => (dutyTok ER (barCell k) 0 c : sProp 𝕄)); iexact H1
  iapply (but_intro c fun k => (iprop(dutyTok ER (sendCell c k) 0 c ∗ dutyTok ER (recvCell k c) 0 c) : sProp 𝕄))
  rw [bigSep_sep']
  isplitl [H2] <;> iassumption

/-- The tokens dealt to who pays them: a barrier's and a receive cell's go to the device on the other side. -/
theorem toks_dealt : (bigSep Finset.univ fun c : Dev nD => (toks c : sProp 𝕄)) ⊢ bigSep Finset.univ fun c : Dev nD => iprop(barToks c ∗ sendToks c) := by
  have h : (bigSep Finset.univ fun c : Dev nD => iprop((bigSep Finset.univ fun k => dutyTok ER (barCell k) 0 c)
      ∗ (bigSep Finset.univ fun k => dutyTok ER (sendCell c k) 0 c) ∗ (bigSep Finset.univ fun k => dutyTok ER (recvCell k c) 0 c) : sProp 𝕄))
      ⊢ bigSep Finset.univ fun c : Dev nD => iprop(barToks c ∗ sendToks c) := bigSep_mono fun c _ => toks_pay c
  have e : (bigSep Finset.univ fun c : Dev nD => (toks c : sProp 𝕄))
      = bigSep Finset.univ fun c : Dev nD => iprop((bigSep Finset.univ fun k => dutyTok ER (barCell k) 0 c)
        ∗ (bigSep Finset.univ fun k => dutyTok ER (sendCell c k) 0 c) ∗ (bigSep Finset.univ fun k => dutyTok ER (recvCell k c) 0 c)) := by
    unfold toks
    rw [bigSep_sep', bigSep_sep', bigSep_sep', bigSep_sep', bigSep_univ_comm (fun (c k : Dev nD) => (dutyTok ER (barCell c) 0 k : sProp 𝕄)),
      bigSep_univ_comm (fun (c k : Dev nD) => (dutyTok ER (recvCell c k) 0 k : sProp 𝕄))]
  rw [e]; exact h

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal_intro (K : Dev nD × CIx → ℕ) (c : Dev nD) : iprop(records m ρ K ∗ linear c) ⊢ G' m ρ c := by
  unfold G'
  iintro ⟨HR, HL⟩
  isplitl [HR]
  · iexists K; iexact HR
  iexact HL

theorem regroup :
    (bigSep Finset.univ fun c : Dev nD => iprop((bigSep Finset.univ fun i => iprop(∃ κ : ℕ, cellInv ER (Rd m ρ) κ (kcell (c, i))))
          ∗ (bigSep Finset.univ fun i => iprop(atPos ER (kcell (c, i)) 0 ∅ 0 ∗ reached ER (kcell (c, i)) 0)) ∗ toks c) : sProp 𝕄)
      ⊢ bigSep Finset.univ (G' m ρ) := by
  rw [bigSep_sep', bigSep_sep', ← bigSep_univ_prod (fun ci : Dev nD × CIx => iprop(∃ κ : ℕ, cellInv ER (Rd m ρ) κ (kcell ci))),
    bigSep_congr (s := Finset.univ) (fun (c : Dev nD) _ => bigSep_sep' Finset.univ (fun i : CIx => (atPos ER (kcell (c, i)) 0 ∅ 0 : sProp 𝕄)) (fun i => reached ER (kcell (c, i)) 0)),
    bigSep_sep', ← bigSep_univ_prod (fun ci : Dev nD × CIx => (reached ER (kcell ci) 0 : sProp 𝕄))]
  iintro ⟨HI, ⟨Hat, #HR⟩, Htok⟩
  ihave HK := (BI.bigSep_exists_pi Finset.univ (fun (ci : Dev nD × CIx) (κ : ℕ) => (cellInv ER (Rd m ρ) κ (kcell ci) : sProp 𝕄))) $$ HI
  icases HK with ⟨%K, #HI⟩
  ihave Htk := (toks_dealt (F := F)) $$ Htok
  iapply (bigSep_with_persistent (R := records m ρ K) fun c _ => deal_intro m ρ K c)
  isplitr
  · unfold records; isplitl; · iexact HI
    iexact HR
  · have e : (bigSep Finset.univ fun c : Dev nD => (linear c : sProp 𝕄))
        = iprop((bigSep Finset.univ fun c : Dev nD => bigSep Finset.univ fun i : CIx => atPos ER (kcell (c, i)) 0 ∅ 0)
          ∗ bigSep Finset.univ fun c : Dev nD => iprop(barToks c ∗ sendToks c)) := by unfold linear; rw [bigSep_sep']
    iapply (Entails.of_eq e.symm)
    isplitl [Hat]; · iexact Hat
    iexact Htk

/-- The launch's one step over all devices together. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credits are what is owed -/

theorem kcell_eq_iff {c c' : Dev nD} {i i' : CIx} : kcell (c, i) = kcell (c', i') ↔ c = c' ∧ i = i' :=
  kcell_injective.eq_iff.trans Prod.mk_inj

theorem O₀_eq (c : Dev nD) : O₀ c = (∑ k, barT c k) + ∑ k, recvT c k := by
  unfold O₀ oB oR
  simp only [Fin.sum_univ_eight, devs, List.map_cons, List.map_nil, List.sum_cons, List.sum_nil, add_zero, add_assoc]

theorem barT_at (d k c : Dev nD) (i : CIx) : barT d k (kcell (c, i)) () = if k = c then if i = none ∧ c ≠ d then 1 else 0 else 0 := by
  unfold barT
  by_cases hk : k = d
  · subst hk; rw [if_pos rfl]
    by_cases hc : k = c
    · subst hc; rw [if_pos rfl, if_neg (fun h => h.2 rfl)]; rfl
    · rw [if_neg hc]; rfl
  · rw [if_neg hk, tallyAt_apply, show (barCell k : GSem nD τ sig) = kcell (k, none) from rfl]
    simp only [kcell_eq_iff]
    by_cases hc : k = c
    · subst hc; simp [hk]
    · have hc' : ¬ c = k := fun h => hc h.symm
      simp [hc, hc']

theorem recvT_at (d k c : Dev nD) (i : CIx) : recvT d k (kcell (c, i)) () = if k = c then if i = some (false, d) ∧ c ≠ d then N else 0 else 0 := by
  unfold recvT
  by_cases hk : k = d
  · subst hk; rw [if_pos rfl]
    by_cases hc : k = c
    · subst hc; rw [if_pos rfl, if_neg (fun h => h.2 rfl)]; rfl
    · rw [if_neg hc]; rfl
  · rw [if_neg hk, tallyAt_apply, show (recvCell k d : GSem nD τ sig) = kcell (k, some (false, d)) from rfl]
    simp only [kcell_eq_iff]
    by_cases hc : k = c
    · subst hc; simp [hk]
    · have hc' : ¬ c = k := fun h => hc h.symm
      simp [hc, hc']

/-- What device `d` owes at a cell of device `c`. -/
theorem owed_at (d c : Dev nD) (i : CIx) : O₀ d (kcell (c, i)) ()
    = (if i = none ∧ c ≠ d then 1 else 0) + if i = some (false, d) ∧ c ≠ d then N else 0 := by
  rw [O₀_eq, Pi.add_apply, Finsupp.add_apply, Finset.sum_apply, Finset.sum_apply, Finsupp.finset_sum_apply, Finsupp.finset_sum_apply,
    Finset.sum_congr rfl fun k _ => barT_at d k c i, Finset.sum_congr rfl fun k _ => recvT_at d k c i,
    Finset.sum_ite_eq' Finset.univ c, Finset.sum_ite_eq' Finset.univ c, if_pos (Finset.mem_univ _), if_pos (Finset.mem_univ _)]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same]
  rw [Finset.sum_congr rfl fun d _ => owed_at d c none]
  simp only [reduceCtorEq, false_and, if_false, add_zero, true_and]
  revert c; decide

theorem launch_recv (c k : Dev nD) (hk : k ≠ c) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same]
  show ∑ d, O₀ d (kcell (c, some (false, k))) () = N
  rw [Finset.sum_congr rfl fun d _ => owed_at d c (some (false, k))]
  rw [Finset.sum_eq_single k (fun d _ hd => ?_) (fun h => absurd (Finset.mem_univ _) h)]
  · rw [if_neg (fun h => by cases h.1), if_pos ⟨rfl, hk.symm⟩, Nat.zero_add]
  · rw [if_neg (fun h => by cases h.1), if_neg (fun h => by have := h.1; simp only [Option.some.injEq, Prod.mk.injEq, true_and] at this; exact hd this.symm), Nat.add_zero]

theorem creds (c : Dev nD) : (Pipeline.launchCred O₀ c : sProp 𝕄)
    ⊢ iprop(cred (tallyAt (barCell c) () 7) ∗ bigSep Finset.univ fun k => if k = c then iprop(emp) else cred (tallyAt (recvCell c k) () N)) := by
  unfold Pipeline.launchCred
  rw [bigSep_univ_at _ (SemLoc.reg barS), launch_bar, bigSep_but]
  refine sep_mono_right ?_
  have h : (Finset.univ.erase c).map ⟨fun k => (SemLoc.dma (recvS k) : SemLoc sig), fun k k' h => by
      have := @csem_injective (some (false, k)) (some (false, k')) h
      simpa using this⟩ ⊆ Finset.univ.erase (SemLoc.reg barS) := fun sm hsm => by
    obtain ⟨k, _, rfl⟩ := Finset.mem_map.mp hsm
    exact Finset.mem_erase.mpr ⟨(fun h => by injection h), Finset.mem_univ _⟩
  refine (bigSep_subset h).trans ?_
  rw [bigSep_map]
  refine bigSep_mono fun k hk => ?_
  rw [← launch_recv c k (Finset.ne_of_mem_erase hk)]
  rfl

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨HcB, HcR⟩
  unfold G' linear
  rw [bigSep_cix]
  icases HG with ⟨HK, ⟨HaB, HaS, HaR⟩, HbT, HsT⟩
  imodintro
  unfold start exchIn RecvIn
  isplitl
  · isplitl [HK]; · iexact HK
    isplitr [Hlev]
    · isplitl [HaB]; · iexact HaB
      isplitl [HcB]; · iexact HcB
      isplitl [HbT]; · iexact HbT
      isplitl [HsT]; · iexact HsT
      isplitl [HaR HcR]
      · rw [bigSep_sep']
        isplitl [HaR]; · iexact HaR
        iexact HcR
      iexact HaS
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ exchOut
  iintro ⟨Hr, HzB, HzS, HzR⟩
  isplitl [HzB]; · iexact HzB
  isplitl [HzS HzR]
  · isplitl [HzS] <;> iassumption
  iexists (gathered m ρ); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What window `w`'s array holds on device `c` when the kernel is done. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the eight devices, for any float values, from any memory with zero counters: every weakly fair execution of `main`
    terminates, with each device's arrays at the computed contents and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exch m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array holds after the run what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdealProof

end
-- ==== Proof.Value.Analysis.lean ====
/-
The arithmetic of a softmax taken in parts, over the reals inside the extended reals.

A row is cut into parts. Each part contributes its maximum and its exponentials summed against that maximum; the parts'
sums, rescaled to the row's maximum, add up to the row's sum of exponentials, and a part's exponentials rescaled likewise
are the row's. The maxima and sums here are the extended reals' own; the entries are real.
-/
module

public import Idealize.ShloMosaic.PureOps.Ideal
public import Idealize.ShloMosaic.Lib.IdealHost

@[expose] public section

noncomputable section

namespace Cert.Softmax

open Idealize.ShloMosaic

/-- The largest of finitely many extended reals, `⊥` of none. -/
def top {n : ℕ} (f : Fin n → EReal) : EReal := Finset.univ.sup f

theorem fold_max_eq_top {n : ℕ} (f : Fin n → EReal) : Finset.univ.fold max (Ideal.ofBits .f32 0xFF800000#32) f = top f := by
  have h : Ideal.ofBits .f32 0xFF800000#32 = ⊥ := by
    simp [Ideal.ofBits, Ideal.ieee]
  rw [h]; rfl

/-- The largest of real entries, at least one of them, is real. -/
theorem top_real {n : ℕ} (f : Fin (n + 1) → ℝ) : ∃ a : ℝ, top (fun i => (f i : EReal)) = a := by
  obtain ⟨i, _, h⟩ := Finset.exists_mem_eq_sup Finset.univ ⟨0, Finset.mem_univ _⟩ (fun i => (f i : EReal))
  exact ⟨f i, h⟩

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem div_real (x y : ℝ) (hy : y ≠ 0) : Ideal.div (x : EReal) (y : EReal) = ((x / y : ℝ) : EReal) := by
  rw [Ideal.div_coe hy, ← EReal.coe_mul, mul_one_div]

/-- The softmax of a row at one of its entries. -/
def softmax {n : ℕ} (y : Fin n → EReal) (j : Fin n) : EReal :=
  Ideal.div (Ideal.exp (y j - top y)) (∑ k, Ideal.exp (y k - top y))

/-- A part's exponentials summed against the part's maximum. -/
def partSum {n : ℕ} (x : Fin n → EReal) : EReal := ∑ l, Ideal.exp (x l - top x)

/-- The same entry from the parts' maxima and sums: entry `l` of part `c`. -/
def combined {m n : ℕ} (x : Fin m → Fin n → EReal) (c : Fin m) (l : Fin n) : EReal :=
  Ideal.exp (x c l - top (x c))
    * Ideal.div (Ideal.exp (top (x c) - top fun k => top (x k))) (∑ k, partSum (x k) * Ideal.exp (top (x k) - top fun k => top (x k)))

/-- The row's maximum is the largest of its parts' maxima. -/
theorem top_parts {m n : ℕ} {N : ℕ} (e : Fin m × Fin n ≃ Fin N) (y : Fin N → EReal) : (top fun c => top fun l => y (e (c, l))) = top y := by
  unfold top
  apply le_antisymm
  · exact Finset.sup_le fun c _ => Finset.sup_le fun l _ => Finset.le_sup (f := y) (Finset.mem_univ _)
  · refine Finset.sup_le fun j _ => ?_
    obtain ⟨⟨c, l⟩, rfl⟩ := e.surjective j
    exact (Finset.le_sup (f := fun l => y (e (c, l))) (Finset.mem_univ l)).trans
      (Finset.le_sup (f := fun c => Finset.univ.sup fun l => y (e (c, l))) (Finset.mem_univ c))

/-- The reals' side: with `a` the parts' maxima and `b` the row's. -/
theorem split_real {m n N : ℕ} (e : Fin m × Fin n ≃ Fin N) (y : Fin N → ℝ) (a : Fin m → ℝ) (b : ℝ) (c : Fin m) (l : Fin n) :
    Real.exp (y (e (c, l)) - a c) * (Real.exp (a c - b) / ∑ k, (∑ i, Real.exp (y (e (k, i)) - a k)) * Real.exp (a k - b))
      = Real.exp (y (e (c, l)) - b) / ∑ j, Real.exp (y j - b) := by
  have hs : ∑ k, (∑ i, Real.exp (y (e (k, i)) - a k)) * Real.exp (a k - b) = ∑ j, Real.exp (y j - b) := by
    rw [← e.sum_comp, Fintype.sum_prod_type]
    refine Finset.sum_congr rfl fun k _ => ?_
    rw [Finset.sum_mul]
    refine Finset.sum_congr rfl fun i _ => ?_
    rw [← Real.exp_add]; congr 1; ring
  rw [hs, ← mul_div_assoc, ← Real.exp_add]
  congr 2; ring

/-- What the parts make together is the softmax of the row, its entries being real. -/
theorem combined_eq_softmax {m n N : ℕ} (e : Fin (m + 1) × Fin (n + 1) ≃ Fin (N + 1)) (y : Fin (N + 1) → EReal) (hy : ∀ j, ∃ r : ℝ, y j = r)
    (c : Fin (m + 1)) (l : Fin (n + 1)) : combined (fun c l => y (e (c, l))) c l = softmax y (e (c, l)) := by
  choose z hz using hy
  obtain rfl : y = fun j => (z j : EReal) := funext hz
  unfold combined softmax
  have hM := top_parts e fun j => (z j : EReal)
  dsimp only at hM ⊢
  rw [hM]
  obtain ⟨b, hb⟩ := top_real z
  have ha : ∀ k, ∃ a : ℝ, top (fun i => (z (e (k, i)) : EReal)) = a := fun k => top_real fun i => z (e (k, i))
  choose a ha using ha
  simp only [partSum, ha, hb, ← EReal.coe_sub, Ideal.exp_coe, sum_coe, ← EReal.coe_mul]
  have hpos : ∀ {ι : Type} [Fintype ι] [Nonempty ι] (f : ι → ℝ), (∀ i, 0 < f i) → (∑ i, f i) ≠ 0 := fun f hf =>
    (Finset.sum_pos (fun i _ => hf i) Finset.univ_nonempty).ne'
  rw [div_real _ _ (hpos _ fun k => mul_pos (Finset.sum_pos (fun i _ => Real.exp_pos _) Finset.univ_nonempty) (Real.exp_pos _)),
    div_real _ _ (hpos _ fun j => Real.exp_pos _), ← EReal.coe_mul, split_real]

end Cert.Softmax

end
-- ==== Proof.Value.Block.lean ====
/-
What one device computes, read at an index: its rows' maxima, the exponentials of its block against them, the statistics
it sends, and the result it makes of its own exponentials and the statistics gathered.
-/
module

public import proofs.«01_k».proof.Proof.Gen.KernelIdeal.Skeleton
public import proofs.«01_k».proof.Proof.Value.Analysis
public import Idealize.ShloMosaic.Lib.Pointwise

@[expose] public section

set_option maxRecDepth 16384

noncomputable section

namespace Cert.Softmax

open Idealize.ShloMosaic Idealize.ShloMosaic.Pointwise Cert.KernelIdeal Cert.KernelIdeal.Gen

/-- Row `r` of a device's block. -/
def row (x : FVec Ideal S512x256 .f32) (r : Fin 512) : Fin 256 → EReal := fun l => x (ix2 r l)

/-- The block is taken as it is. -/
theorem pay1_eq (x : Vec Ideal S512x256 .f32) : (k0_pay1 x : S512x256.Idx → EReal) = x := by
  funext j
  idx_vars j
  pointwise [k0_pay1]

/-- The rows' maxima. -/
theorem pay2_at (x : FVec Ideal S512x256 .f32) (r : Fin 512) (l : Fin 1) : k0_pay2 x (ix2 r l) = top (row x r) := by
  pointwise [k0_pay2]
  exact fold_max_eq_top _

/-- The exponentials of a row against its maximum. -/
theorem pay3_at (x : FVec Ideal S512x256 .f32) (r : Fin 512) (l : Fin 256) : k0_pay3 x (ix2 r l) = Ideal.exp (row x r l - top (row x r)) := by
  pointwise [k0_pay3]
  rw [pay2_at]; rfl

/-- The statistics: a row's maximum, -/
theorem pay4_max (x : FVec Ideal S512x256 .f32) (r : Fin 512) : k0_pay4 x (ix2 (0 : Fin 2) r) = top (row x r) := by
  pointwise [k0_pay4]
  exact pay2_at x r _
/-- and the sum of its exponentials. -/
theorem pay4_sum (x : FVec Ideal S512x256 .f32) (r : Fin 512) : k0_pay4 x (ix2 (1 : Fin 2) r) = partSum (row x r) := by
  pointwise [k0_pay4]
  exact Finset.sum_congr rfl fun l _ => pay3_at x r l

/-- The result, of the exponentials `p`, the device's own statistics `s` and those gathered. -/
theorem pay6_at (p : FVec Ideal S512x256 .f32) (s : FVec Ideal S2x512 .f32) (g : FVec Ideal S8x2x512 .f32) (r : Fin 512) (l : Fin 256) :
    k0_pay6 p s g (ix2 r l) = p (ix2 r l) * Ideal.div (Ideal.exp (s (ix2 (0 : Fin 2) r) - top fun k : Fin 8 => g (ix3 k (0 : Fin 2) r)))
      (∑ k : Fin 8, g (ix3 k (1 : Fin 2) r) * Ideal.exp (g (ix3 k (0 : Fin 2) r) - top fun k : Fin 8 => g (ix3 k (0 : Fin 2) r))) := by
  pointwise [k0_pay6]
  simp only [fold_max_eq_top]

end Cert.Softmax

end
-- ==== Proof.Value.Result.lean ====
/-
What a device's result array holds when the kernel is done, read at an index: the combination of the parts' statistics,
one part to a device, at the device's own part.
-/
module

public import proofs.«01_k».proof.Proof.KernelIdeal.Launch
public import proofs.«01_k».proof.Proof.Value.Block

@[expose] public section

set_option maxRecDepth 16384

noncomputable section

namespace Cert.Softmax

open Idealize.ShloMosaic Idealize.ShloMosaic.TcCoe Cert.KernelIdeal Cert.KernelIdeal.Gen Cert.KernelIdealProof

variable (m : (ℓ : Loc nD τ sig) → Buf (Elt Ideal) ℓ) (ρ : Dev nD → PrngReg)

/-- Device `c`'s block of the argument. -/
def arg (c : Dev nD) : FVec Ideal S512x256 .f32 := m ((c : Thread nD τ).loc main_arg0)

/-- The kernel's arithmetic reads the block as the argument array holds it. -/
theorem xAt_eq (c : Dev nD) : xAt m ρ c = arg m c := by
  unfold xAt
  refine (pay1_eq _).trans ?_
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _

/-- Slot `k` of the statistics gathered holds device `k`'s row maxima -/
theorem gathered_max (k : Fin 8) (r : Fin 512) : gathered m ρ (ix3 k (0 : Fin 2) r) = top (row (arg m k) r) := by
  rw [← xAt_eq m ρ k]
  exact pay4_max (xAt m ρ k) r
/-- and the sums of its rows' exponentials. -/
theorem gathered_sum (k : Fin 8) (r : Fin 512) : gathered m ρ (ix3 k (1 : Fin 2) r) = partSum (row (arg m k) r) := by
  rw [← xAt_eq m ρ k]
  exact pay4_sum (xAt m ρ k) r

/-- The kernel's result at row `r`, column `l`. -/
theorem outAt_at (c : Dev nD) (r : Fin 512) (l : Fin 256) :
    outAt m ρ c (ix2 r l) = combined (fun k : Fin 8 => row (arg m k) r) c l := by
  unfold outAt combined
  refine (pay6_at _ _ _ r l).trans ?_
  rw [pay3_at, pay4_max, xAt_eq]
  simp only [gathered_max, gathered_sum]

/-- The result array is the result's block, whole. -/
theorem finalA_out (c : Dev nD) : finalA m ρ c (1 : Fin 2) = outAt m ρ c := by
  have ho : (win0_1.blk (0 : Fin 1)).view.read (Elt Ideal) (finalA m ρ c (1 : Fin 2)) = outAt m ρ c := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  have hz : (fun a => (win0_1.index (0 : Fin 1)) a * main_v1.ty.shape.size a) = fun _ => 0 :=
    funext fun a => by fin_cases a <;> decide
  exact (Memref.read_access_unit_zero (Elt Ideal) main_v1 hz (fun a => by fin_cases a <;> decide) _).symm.trans ho

end Cert.Softmax

end
-- ==== Proof.Value.Reference.lean ====
/-
What the reference computes, read at an index: the softmax of each row of the whole array.
-/
module

public import proofs.«01_k».proof.Proof.Gen.ReferenceIdeal.Run
public import proofs.«01_k».proof.Proof.Value.Analysis
public import Idealize.ShloMosaic.Lib.Pointwise

@[expose] public section

set_option maxRecDepth 16384

noncomputable section

namespace Cert.Softmax.Reference

open Idealize.ShloMosaic Idealize.ShloMosaic.Pointwise Cert.ReferenceIdeal Cert.ReferenceIdeal.Gen

/-- The rows' maxima, spread over the array; -/
def maxima (v : FVec Ideal S512x2048 .f32) : FVec Ideal S512x2048 .f32 :=
  broadcastInDim S512x2048 ![0, 1] bcast_S512x1_S512x2048_0_1 (broadcastInDim S512x1 ![0] bcast_S512_S512x1_0
    (Host.reduce FloatOps.maximumf v (constant S_ .f32 0xFF800000#32) reducesTo_S512x2048_S512_d1 h_S_))
/-- the exponentials against them; -/
def exps (v : FVec Ideal S512x2048 .f32) : FVec Ideal S512x2048 .f32 := Host.exp (subf v (maxima v))
/-- and the exponentials over their sums: the reference's result. -/
def out (v : FVec Ideal S512x2048 .f32) : FVec Ideal S512x2048 .f32 :=
  Host.divf (exps v) (broadcastInDim S512x2048 ![0, 1] bcast_S512x1_S512x2048_0_1 (broadcastInDim S512x1 ![0] bcast_S512_S512x1_0
    (Host.reduceAdd (exps v) (constant S_ .f32 0x00000000#32) reducesTo_S512x2048_S512_d1 h_S_)))

/-- Row `r` of the whole array. -/
def row (v : FVec Ideal S512x2048 .f32) (r : Fin 512) : Fin 2048 → EReal := fun j => v (ix2 r j)

theorem maxima_at (v : FVec Ideal S512x2048 .f32) (r : Fin 512) (j : Fin 2048) : maxima v (ix2 r j) = top (row v r) := by
  pointwise [maxima]
  exact fold_max_eq_top _

theorem exps_at (v : FVec Ideal S512x2048 .f32) (r : Fin 512) (j : Fin 2048) : exps v (ix2 r j) = Ideal.exp (row v r j - top (row v r)) := by
  pointwise [exps]
  rw [maxima_at]; rfl

theorem out_at (v : FVec Ideal S512x2048 .f32) (r : Fin 512) (j : Fin 2048) : out v (ix2 r j) = softmax (row v r) j := by
  pointwise [out]
  simp only [exps_at]
  rfl

end Cert.Softmax.Reference

end
-- ==== Proof.Value.Equation.lean ====
/-
The equation: of arguments that are the eight blocks of columns of one array of real entries, each device's result is its
block of columns of the reference's result.
-/
module

public import proofs.«01_k».proof.Proof.Value.Result
public import proofs.«01_k».proof.Proof.Value.Reference
public import proofs.«01_k».proof.Pre_finite_KernelIdeal
public import Idealize.ShloMosaic.Lib.Layout

@[expose] public section

set_option maxRecDepth 16384

noncomputable section

namespace Cert.Softmax

open Idealize.ShloMosaic Idealize.ShloMosaic.TcCoe Cert.KernelIdeal Cert.KernelIdeal.Gen Cert.KernelIdealProof
open Idealize.ShloMosaic.Pointwise

/-- An extended real whose absolute value is below `⊤` is real. -/
theorem real_of_abs_lt {x : EReal} (h : max x (-x) < ⊤) : ∃ r : ℝ, x = r := by
  induction x using EReal.rec with
  | bot => simp at h
  | coe r => exact ⟨r, rfl⟩
  | top => simp at h

/-- What the precondition says of one device's block: its entries are real. -/
theorem real_of_finite [Cert.Pre_finite_KernelIdeal.Facts] (x : FVec Ideal S512x256 .f32) (h : Cert.Pre_finite_KernelIdeal.fn x = fun _ => 1#1)
    (r : Fin 512) (l : Fin 256) : ∃ z : ℝ, row x r l = z := by
  apply real_of_abs_lt
  have hi := congrFun h (ix2 r l)
  have htop : Ideal.ofBits .f32 0x7F800000#32 = ⊤ := by simp [Ideal.ofBits, Ideal.ieee]
  pointwise [Cert.Pre_finite_KernelIdeal.fn] at hi
  rw [htop, Ideal.absf_def] at hi
  by_contra hn
  change BitVec.ofBool (decide (max (row x r l) (-row x r l) < ⊤)) = 1#1 at hi
  rw [decide_eq_false hn] at hi
  exact absurd hi (by decide)

/-- Column `l` of device `c`'s block is column `256 c + l` of the whole. -/
def col : Fin 8 × Fin 256 ≃ Fin 2048 := finProdFinEquiv

variable (m : (ℓ : Loc nD τ sig) → Buf (Elt Ideal) ℓ) (ρ : Dev nD → PrngReg)

theorem block_at (c : Dev nD) (v : FVec Ideal Cert.ReferenceIdeal.S512x2048 .f32) (r : Fin 512) (l : Fin 256) :
    Layout.block S512x256 Cert.ReferenceIdeal.S512x2048 1 8 c v (by decide) (ix2 r l) = Reference.row v r (col (c, l)) := by
  unfold Reference.row
  rw [Layout.block_apply]
  congr 1
  funext a
  apply Fin.ext
  fin_cases a
  · rfl
  · show c.val * 256 + l.val = l.val + 256 * c.val
    omega

/-- The equation. -/
theorem result_eq (v : FVec Ideal Cert.ReferenceIdeal.S512x2048 .f32)
    (hv : ∀ c, arg m c = Layout.block S512x256 Cert.ReferenceIdeal.S512x2048 1 8 c v (by decide))
    (hreal : ∀ c r l, ∃ z : ℝ, row (arg m c) r l = z) (c : Dev nD) :
    outAt m ρ c = Layout.block S512x256 Cert.ReferenceIdeal.S512x2048 1 8 c (Reference.out v) (by decide) := by
  have hrow : ∀ k r l, row (arg m k) r l = Reference.row v r (col (k, l)) := fun k r l => by
    unfold row; rw [hv k]; exact block_at k v r l
  funext j
  obtain ⟨r, l, rfl⟩ : ∃ (r : Fin 512) (l : Fin 256), j = ix2 r l := ⟨j 0, j 1, eq_ix2 j⟩
  rw [outAt_at, block_at]
  have hf : (fun k : Fin 8 => row (arg m k) r) = fun k l => Reference.row v r (col (k, l)) := funext fun k => funext fun l => hrow k r l
  rw [hf]
  refine (combined_eq_softmax (m := 7) (n := 255) (N := 2047) col (Reference.row v r) (fun j => ?_) c l).trans (Reference.out_at v r _).symm
  obtain ⟨⟨k, i⟩, rfl⟩ := col.surjective j
  obtain ⟨z, hz⟩ := hreal k r i
  exact ⟨z, (hrow k r i).symm.trans hz⟩

end Cert.Softmax

end
-- ==== Proof.lean ====
/-
The certificate's claims, assembled: the kernel's run at both instances, the reference's, and the equation between their
results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Kernel.Launch
public import proofs.«01_k».proof.Proof.KernelIdeal.Launch
public import proofs.«01_k».proof.Proof.Value.Equation
public import Idealize.ShloMosaic.Lib.Quiescent
public import Idealize.ShloMosaic.Adequacy
public import Idealize.ShloMosaic.Init

@[expose] public section

noncomputable section

namespace Cert.Proof

open Idealize.ShloMosaic Idealize.SL.Sem Idealize.ShloMosaic.TcCoe

/-- The kernel as printed terminates, leaves its argument as it was and every counter at zero: its run, values dropped. -/
theorem frame_kernel : Cert.quiescent_Kernel := by
  intro m g _
  exact (θ_run _ _ _).mono (fun _ h => ⟨fun c => (h.1 c (0 : Fin 2)).trans (Cert.KernelProof.finalA_x m g c), h.2⟩)
    (Cert.KernelProof.run_main (F := Bits) m g)

/-- So does its idealization. -/
theorem frame_ideal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0))
      ∧ r.2.sem = fun _ => 0) :=
  (θ_run _ _ _).mono (fun _ h => ⟨fun c => (h.1 c (0 : Fin 2)).trans (Cert.KernelIdealProof.finalA_x m g c), h.2⟩)
    (Cert.KernelIdealProof.run_main (F := Ideal) m g)

/-- The reference terminates and leaves its argument as it was; it has no semaphore. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0))
      ∧ r.2.sem = fun _ => 0) :=
  (θ_run _ _ _).mono (fun r h => ⟨fun c => (h c).2, sem_eq_zero_of_no_sems (by decide) r.2⟩)
    (Cert.ReferenceIdeal.Value.run (F := Ideal) m g)

/-- Each device's result is its block of columns of the reference's, the entries being real. -/
theorem algebraic : Cert.algebraic_KernelIdeal_ReferenceIdeal_pre_finite_KernelIdeal := by
  intro m g m' g' hpre hagree
  refine ⟨Cert.Softmax.Reference.out (m' (((0 : Dev Cert.ReferenceIdeal.nD).tc : Thread Cert.ReferenceIdeal.nD Cert.ReferenceIdeal.τ).loc Cert.ReferenceIdeal.main_arg0)), ?_, ?_⟩
  · refine (θ_run _ _ _).mono (fun _ h c => ⟨(h.1 c (1 : Fin 2)).trans ?_, (h.1 c (0 : Fin 2)).trans (Cert.KernelIdealProof.finalA_x m g c)⟩)
      (Cert.KernelIdealProof.run_main (F := Ideal) m g)
    exact (Cert.Softmax.finalA_out m g c).trans
      (Cert.Softmax.result_eq m g _ hagree (fun c r l => Cert.Softmax.real_of_finite (Cert.Softmax.arg m c) (hpre c) r l) c)
  · exact (θ_run _ _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts, Cert.Pre_finite_KernelIdeal.Gen.facts, Cert.Pre_finite_ReferenceIdeal.Gen.facts,
    frame_kernel, fun m g _ => frame_ideal m g, fun m g _ => frame_ideal m g, fun m g _ => frame_reference m g, fun m g _ => frame_reference m g, trivial, algebraic⟩

end Cert.Proof

end
